-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_pixels [hPre_unit_pixels : Cert.Pre_unit_pixels.Facts] (m : (ℓ : Loc Cert.KernelIdeal.nD Cert.KernelIdeal.τ Cert.KernelIdeal.sig) → Buf (Elt Ideal) ℓ) : Prop :=
  ∀ c : Dev Cert.KernelIdeal.nD,
    (Cert.Pre_unit_pixels.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_pixels [hPre_unit_pixels : Cert.Pre_unit_pixels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_pixels.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_pixels [hKernelIdeal : Cert.KernelIdeal.Facts] [hPre_unit_pixels : Cert.Pre_unit_pixels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_pixels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_pixels [hReferenceIdeal : Cert.ReferenceIdeal.Facts] [hPre_unit_pixels : Cert.Pre_unit_pixels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_pixels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_unit_pixels [hKernelIdeal : Cert.KernelIdeal.Facts] [hReferenceIdeal : Cert.ReferenceIdeal.Facts] [hPre_unit_pixels : Cert.Pre_unit_pixels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_pixels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_pixels : Cert.Pre_unit_pixels.Facts),
    quiescent_Kernel (hKernel := hKernel)
    ∧ quiescent_KernelIdeal (hKernelIdeal := hKernelIdeal)
    ∧ quiescent_KernelIdeal_pre_unit_pixels (hKernelIdeal := hKernelIdeal) (hPre_unit_pixels := hPre_unit_pixels)
    ∧ quiescent_ReferenceIdeal (hReferenceIdeal := hReferenceIdeal)
    ∧ quiescent_ReferenceIdeal_pre_unit_pixels (hReferenceIdeal := hReferenceIdeal) (hPre_unit_pixels := hPre_unit_pixels)
    ∧ preserves_Kernel_KernelIdeal
    ∧ algebraic_KernelIdeal_ReferenceIdeal_pre_unit_pixels (hKernelIdeal := hKernelIdeal) (hReferenceIdeal := hReferenceIdeal) (hPre_unit_pixels := hPre_unit_pixels)
-- ==== Pre_unit_pixels.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)

variable [Facts]

def fn {F : FTy → Type} [FloatOps F] (main_arg0 : FVec F S32x3x512x512 .f32) : IVec S32x3x512x512 1 :=
  let main_cst : FVec F S_ .f32 := constant S_ .f32 0x00000000#32
  let main_v0 : FVec F S32x3x512x512 .f32 := broadcastInDim S32x3x512x512 ![] bcast_S_S32x3x512x512 main_cst
  let main_v1 : IVec S32x3x512x512 1 := cmpf .oge main_arg0 main_v0
  let main_cst_0 : FVec F S_ .f32 := constant S_ .f32 0x3F800000#32
  let main_v2 : FVec F S32x3x512x512 .f32 := broadcastInDim S32x3x512x512 ![] bcast_S_S32x3x512x512 main_cst_0
  let main_v3 : IVec S32x3x512x512 1 := cmpf .ole main_arg0 main_v2
  let main_v4 : IVec S32x3x512x512 1 := andi main_v1 main_v3
  main_v4
-- ==== Kernel.lean ====
abbrev S32x3x512x512 : Shape := ⟨4, ![32, 3, 512, 512]⟩
abbrev S96x512x512 : Shape := ⟨3, ![96, 512, 512]⟩
abbrev S1x512x512 : Shape := ⟨3, ![1, 512, 512]⟩
abbrev S512x64 : Shape := ⟨2, ![512, 64]⟩
abbrev S512x512 : Shape := ⟨2, ![512, 512]⟩
abbrev S1x512 : Shape := ⟨2, ![1, 512]⟩
abbrev S511x512 : Shape := ⟨2, ![511, 512]⟩
abbrev S512x511 : Shape := ⟨2, ![512, 511]⟩
abbrev S512x1 : Shape := ⟨2, ![512, 1]⟩
abbrev S1x64 : Shape := ⟨2, ![1, 64]⟩
abbrev S511x64 : Shape := ⟨2, ![511, 64]⟩
abbrev S512x63 : Shape := ⟨2, ![512, 63]⟩
abbrev S1x512x64 : Shape := ⟨3, ![1, 512, 64]⟩
abbrev S1 : Shape := ⟨1, ![1]⟩
abbrev S1x1x1 : Shape := ⟨3, ![1, 1, 1]⟩
abbrev S64x512 : Shape := ⟨2, ![64, 512]⟩

abbrev nBuf : Space → Nat
  | .hbm => 4
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S96x512x512, .f32⟩
  | .hbm, ⟨2, _⟩ => ⟨S96x512x512, .f32⟩
  | .hbm, ⟨3, _⟩ => ⟨S32x3x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x64, .i32⟩
  | .local _ .vmem, ⟨5, _⟩ => ⟨S512x64, .i32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x3x512x512 : Shape := ⟨4, ![32, 3, 512, 512]⟩
abbrev S_ : Shape := ⟨0, ![]⟩
abbrev S96x512x512 : Shape := ⟨3, ![96, 512, 512]⟩
abbrev S96x1x512 : Shape := ⟨3, ![96, 1, 512]⟩
abbrev S96x514x512 : Shape := ⟨3, ![96, 514, 512]⟩
abbrev S96x514x1 : Shape := ⟨3, ![96, 514, 1]⟩
abbrev S96x514x514 : Shape := ⟨3, ![96, 514, 514]⟩

abbrev nBuf : Space → Nat
  | .hbm => 153
  | .vmem => 0
  | .smem => 0
  | _ => 0

abbrev hbmTy0_0 (i : Nat) : BufTy := match i % 128 with
  | 0 => ⟨S32x3x512x512, .f32⟩
  | 1 => ⟨S_, .f32⟩
  | 2 => ⟨S32x3x512x512, .f32⟩
  | 3 => ⟨S32x3x512x512, .f32⟩
  | 4 => ⟨S32x3x512x512, .f32⟩
  | 5 => ⟨S_, .f32⟩
  | 6 => ⟨S_, .f32⟩
  | 7 => ⟨S_, .f32⟩
  | 8 => ⟨S32x3x512x512, .f32⟩
  | 9 => ⟨S32x3x512x512, .f32⟩
  | 10 => ⟨S_, .f32⟩
  | 11 => ⟨S32x3x512x512, .f32⟩
  | 12 => ⟨S32x3x512x512, .f32⟩
  | 13 => ⟨S96x512x512, .f32⟩
  | 14 => ⟨S96x1x512, .f32⟩
  | 15 => ⟨S96x1x512, .f32⟩
  | 16 => ⟨S96x514x512, .f32⟩
  | 17 => ⟨S96x514x1, .f32⟩
  | 18 => ⟨S96x514x1, .f32⟩
  | 19 => ⟨S96x514x514, .f32⟩
  | 20 => ⟨S96x512x512, .f32⟩
  | 21 => ⟨S96x512x512, .f32⟩
  | 22 => ⟨S_, .f32⟩
  | 23 => ⟨S96x512x512, .f32⟩
  | 24 => ⟨S96x512x512, .f32⟩
  | 25 => ⟨S96x512x512, .f32⟩
  | 26 => ⟨S96x512x512, .f32⟩
  | 27 => ⟨S96x512x512, .f32⟩
  | 28 => ⟨S96x512x512, .f32⟩
  | 29 => ⟨S96x512x512, .f32⟩
  | 30 => ⟨S_, .f32⟩
  | 31 => ⟨S96x512x512, .f32⟩
  | 32 => ⟨S96x512x512, .f32⟩
  | 33 => ⟨S96x512x512, .f32⟩
  | 34 => ⟨S96x512x512, .f32⟩
  | 35 => ⟨S96x512x512, .f32⟩
  | 36 => ⟨S96x512x512, .f32⟩
  | 37 => ⟨S96x512x512, .f32⟩
  | 38 => ⟨S96x512x512, .f32⟩
  | 39 => ⟨S_, .f32⟩
  | 40 => ⟨S96x512x512, .f32⟩
  | 41 => ⟨S96x512x512, .f32⟩
  | 42 => ⟨S96x512x512, .f32⟩
  | 43 => ⟨S96x512x512, .f32⟩
  | 44 => ⟨S96x512x512, .f32⟩
  | 45 => ⟨S96x512x512, .f32⟩
  | 46 => ⟨S96x512x512, .f32⟩
  | 47 => ⟨S_, .f32⟩
  | 48 => ⟨S96x512x512, .f32⟩
  | 49 => ⟨S96x512x512, .f32⟩
  | 50 => ⟨S96x512x512, .f32⟩
  | 51 => ⟨S96x512x512, .f32⟩
  | 52 => ⟨S96x512x512, .f32⟩
  | 53 => ⟨S96x512x512, .f32⟩
  | 54 => ⟨S96x512x512, .f32⟩
  | 55 => ⟨S96x512x512, .f32⟩
  | 56 => ⟨S96x512x512, .f32⟩
  | 57 => ⟨S96x512x512, .f32⟩
  | 58 => ⟨S_, .f32⟩
  | 59 => ⟨S96x512x512, .f32⟩
  | 60 => ⟨S96x512x512, .f32⟩
  | 61 => ⟨S_, .f32⟩
  | 62 => ⟨S_, .f32⟩
  | 63 => ⟨S96x512x512, .f32⟩
  | 64 => ⟨S96x512x512, .f32⟩
  | 65 => ⟨S_, .f32⟩
  | 66 => ⟨S96x512x512, .f32⟩
  | 67 => ⟨S96x512x512, .i1⟩
  | 68 => ⟨S_, .f32⟩
  | 69 => ⟨S96x512x512, .f32⟩
  | 70 => ⟨S96x512x512, .i1⟩
  | 71 => ⟨S_, .f32⟩
  | 72 => ⟨S_, .i1⟩
  | 73 => ⟨S96x512x512, .i1⟩
  | 74 => ⟨S96x512x512, .i1⟩
  | 75 => ⟨S96x512x512, .i1⟩
  | 76 => ⟨S96x512x512, .f32⟩
  | 77 => ⟨S96x512x512, .f32⟩
  | 78 => ⟨S96x512x512, .f32⟩
  | 79 => ⟨S_, .i32⟩
  | 80 => ⟨S_, .f32⟩
  | 81 => ⟨S96x514x514, .f32⟩
  | 82 => ⟨S_, .f32⟩
  | 83 => ⟨S96x512x512, .f32⟩
  | 84 => ⟨S96x512x512, .i1⟩
  | 85 => ⟨S_, .f32⟩
  | 86 => ⟨S96x512x512, .f32⟩
  | 87 => ⟨S96x512x512, .i1⟩
  | 88 => ⟨S96x512x512, .i1⟩
  | 89 => ⟨S_, .f32⟩
  | 90 => ⟨S96x512x512, .f32⟩
  | 91 => ⟨S96x512x512, .i1⟩
  | 92 => ⟨S_, .f32⟩
  | 93 => ⟨S96x512x512, .f32⟩
  | 94 => ⟨S96x512x512, .i1⟩
  | 95 => ⟨S96x512x512, .i1⟩
  | 96 => ⟨S_, .f32⟩
  | 97 => ⟨S96x512x512, .f32⟩
  | 98 => ⟨S96x512x512, .i1⟩
  | 99 => ⟨S_, .f32⟩
  | 100 => ⟨S96x512x512, .f32⟩
  | 101 => ⟨S96x512x512, .i1⟩
  | 102 => ⟨S96x512x512, .i1⟩
  | 103 => ⟨S96x512x512, .f32⟩
  | 104 => ⟨S96x512x512, .f32⟩
  | 105 => ⟨S96x512x512, .f32⟩
  | 106 => ⟨S96x512x512, .f32⟩
  | 107 => ⟨S96x512x512, .f32⟩
  | 108 => ⟨S96x512x512, .f32⟩
  | 109 => ⟨S96x512x512, .f32⟩
  | 110 => ⟨S96x512x512, .f32⟩
  | 111 => ⟨S96x512x512, .f32⟩
  | 112 => ⟨S96x512x512, .f32⟩
  | 113 => ⟨S96x512x512, .f32⟩
  | 114 => ⟨S96x512x512, .f32⟩
  | 115 => ⟨S96x512x512, .f32⟩
  | 116 => ⟨S96x512x512, .f32⟩
  | 117 => ⟨S96x512x512, .i1⟩
  | 118 => ⟨S96x512x512, .i1⟩
  | 119 => ⟨S96x512x512, .i1⟩
  | 120 => ⟨S_, .f32⟩
  | 121 => ⟨S_, .f32⟩
  | 122 => ⟨S96x512x512, .f32⟩
  | 123 => ⟨S96x512x512, .f32⟩
  | 124 => ⟨S_, .f32⟩
  | 125 => ⟨S96x512x512, .f32⟩
  | 126 => ⟨S96x512x512, .i1⟩
  | 127 => ⟨S_, .f32⟩
  | _ => ⟨S32x3x512x512, .f32⟩

abbrev hbmTy0_1 (i : Nat) : BufTy := match i % 128 with
  | 0 => ⟨S96x512x512, .f32⟩
  | 1 => ⟨S96x512x512, .i1⟩
  | 2 => ⟨S_, .i32⟩
  | 3 => ⟨S_, .i32⟩
  | 4 => ⟨S96x512x512, .i1⟩
  | 5 => ⟨S_, .i32⟩
  | 6 => ⟨S_, .i32⟩
  | 7 => ⟨S96x512x512, .i1⟩
  | 8 => ⟨S_, .i32⟩
  | 9 => ⟨S_, .i1⟩
  | 10 => ⟨S_, .i32⟩
  | 11 => ⟨S_, .i32⟩
  | 12 => ⟨S96x512x512, .f32⟩
  | 13 => ⟨S_, .f32⟩
  | 14 => ⟨S_, .f32⟩
  | 15 => ⟨S96x512x512, .f32⟩
  | 16 => ⟨S_, .f32⟩
  | 17 => ⟨S96x512x512, .f32⟩
  | 18 => ⟨S96x512x512, .i1⟩
  | 19 => ⟨S96x512x512, .i1⟩
  | 20 => ⟨S96x512x512, .i1⟩
  | 21 => ⟨S_, .i32⟩
  | 22 => ⟨S_, .i32⟩
  | 23 => ⟨S96x512x512, .f32⟩
  | 24 => ⟨S32x3x512x512, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_cst : Ref sig .tc := ⟨.hbm, 65, rfl⟩
abbrev main_call1_v3 : Ref sig .tc := ⟨.hbm, 66, rfl⟩
abbrev main_call1_v4 : Ref sig .tc := ⟨.hbm, 67, rfl⟩
abbrev main_call1_cst_0 : Ref sig .tc := ⟨.hbm, 68, rfl⟩
abbrev main_call1_v5 : Ref sig .tc := ⟨.hbm, 69, rfl⟩
abbrev main_call1_v6 : Ref sig .tc := ⟨.hbm, 70, rfl⟩
abbrev main_call1_cst_1 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_v47 : Ref sig .tc := ⟨.hbm, 78, rfl⟩
abbrev main_c : Ref sig .tc := ⟨.hbm, 79, rfl⟩
abbrev main_call2_v0 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_10 : Ref sig .tc := ⟨.hbm, 89, rfl⟩
abbrev main_v54 : Ref sig .tc := ⟨.hbm, 90, rfl⟩
abbrev main_v55 : Ref sig .tc := ⟨.hbm, 91, rfl⟩
abbrev main_cst_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_12 : Ref sig .tc := ⟨.hbm, 96, rfl⟩
abbrev main_v59 : Ref sig .tc := ⟨.hbm, 97, rfl⟩
abbrev main_v60 : Ref sig .tc := ⟨.hbm, 98, rfl⟩
abbrev main_cst_13 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_call9_v0 : Ref sig .tc := ⟨.hbm, 121, rfl⟩
abbrev main_call9_v1 : Ref sig .tc := ⟨.hbm, 122, rfl⟩
abbrev main_v81 : Ref sig .tc := ⟨.hbm, 123, rfl⟩
abbrev main_cst_15 : Ref sig .tc := ⟨.hbm, 124, rfl⟩
abbrev main_v82 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_c_18 : Ref sig .tc := ⟨.hbm, 131, rfl⟩
abbrev main_v86_0 : Ref sig .tc := ⟨.hbm, 132, rfl⟩
abbrev main_v86_1 : Ref sig .tc := ⟨.hbm, 133, rfl⟩
abbrev main_v86_2 : Ref sig .tc := ⟨.hbm, 134, rfl⟩
abbrev main_v86_3 : Ref sig .tc := ⟨.hbm, 135, rfl⟩
abbrev main_while0c_c_22 : Ref sig .tc := ⟨.hbm, 136, rfl⟩
abbrev main_while0c_v89 : Ref sig .tc := ⟨.hbm, 137, rfl⟩
abbrev main_while0b_c_22 : Ref sig .tc := ⟨.hbm, 138, rfl⟩
abbrev main_while0b_v89 : Ref sig .tc := ⟨.hbm, 139, rfl⟩
abbrev main_while0b_v90 : Ref sig .tc := ⟨.hbm, 140, rfl⟩
abbrev main_while0b_cst_23 : Ref sig .tc := ⟨.hbm, 141, rfl⟩
abbrev main_while0b_v91 : Ref sig .tc := ⟨.hbm, 142, rfl⟩
abbrev main_while0b_v92 : Ref sig .tc := ⟨.hbm, 143, rfl⟩
abbrev main_while0b_cst_24 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_v96 : Ref sig .tc := ⟨.hbm, 148, rfl⟩
abbrev main_while0b_c_25 : Ref sig .tc := ⟨.hbm, 149, rfl⟩
abbrev main_while0b_v97 : Ref sig .tc := ⟨.hbm, 150, rfl⟩
abbrev main_v87 : Ref sig .tc := ⟨.hbm, 151, rfl⟩
abbrev main_v88 : Ref sig .tc := ⟨.hbm, 152, rfl⟩

abbrev nD : Nat := 1
abbrev τ : Topo := Topo.v7x

variable {F : FTy → Type} [FloatOps F]

abbrev main_while0_count : Scf.Loop 32 := ⟨0#32, 262144#32, 1#32⟩
-- ==== Proof.K.Table.lean ====
/- The loop stops at floating-point words. -/
module

public import proofs.«01_k».proof.Proof.K.Halts
public import Idealize.ShloMosaic.PureOps.BitExact
public import Idealize.ShloMosaic.PureOps.BitExact.Laws
public import Idealize.ShloMosaic.Lib.NatWordsOrder

@[expose] public section

noncomputable section

namespace Cert.Kernel.Hand

open Idealize.ShloMosaic

/-- The word of one is the word of the natural number one. -/
theorem one_word : (FloatOps.ofBits .f32 0x3F800000#32 : Bits .f32) = Bits.f32OfNat 1 := by
  rw [Bits.f32OfNat_eq 1 (by decide)]
  decide

/-- The word of zero is the word of the natural number zero. -/
theorem zero_word : (FloatOps.ofBits .f32 0x00000000#32 : Bits .f32) = Bits.f32OfNat 0 := by
  rw [Bits.f32OfNat_eq 0 (by decide)]
  decide

/-- Zero, one and −∞ under maximum and comparison, as words. -/
theorem maxTable_bits : MaxTable Bits where
  comm := inferInstance
  assoc := inferInstance
  oo := by rw [one_word]; exact Bits.maxf32_nat (by decide) (by decide)
  oz := by rw [one_word, zero_word]; exact Bits.maxf32_nat (by decide) (by decide)
  zz := by rw [zero_word]; exact Bits.maxf32_nat (by decide) (by decide)
  ob := by
    rw [one_word]
    exact (Bits.maxf32_comm _ _).trans (Bits.maxf32_negativeInfinity_nat (by decide))
  zb := by
    rw [zero_word]
    exact (Bits.maxf32_comm _ _).trans (Bits.maxf32_negativeInfinity_nat (by decide))
  gt_oz := by rw [one_word, zero_word]; exact Bits.cmpf32_ogt_nat (by decide) (by decide)
  gt_zz := by rw [zero_word]; exact Bits.cmpf32_ogt_nat (by decide) (by decide)

/-- The loop stops at the words. -/
theorem halts_bits : Halts Bits := halts_of maxTable_bits

end Cert.Kernel.Hand

end
-- ==== Proof.KI.Kit.lean ====
/- The set-up of the launch: @main around the one kernel region, the block the input window holds at a point, the
   staging and scratch buffers the body is called with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host lines before it. -/
abbrev V0 (c : Dev nD) : Valuation τ sig (Elt F) := StableHlo.after (List.flatten [hostOps0]) (fun b => m (c, b))
/-- The same, read at a reference of the TensorCore. -/
abbrev V (c : Dev nD) (b : Ref sig .tc) : Buf (Elt F) ((c : Thread nD τ).loc b) := V0 m c (Proc.devRef .tc b)

/-- The host lines before the region allocate nothing. -/
theorem pre_fresh : (hostOps0 : List (HloOp τ sig (Elt F))).Forall fun op => op.fresh = ∅ := by
  simp only [List.Forall]; repeat' constructor
/-- The host lines after the region allocate nothing. -/
theorem post_fresh : (hostOps1 : List (HloOp τ sig (Elt F))).Forall fun op => op.fresh = ∅ := by
  simp only [List.Forall]; repeat' constructor

set_option maxHeartbeats 800000 in
/-- @main is the host lines before the region, the region, the host lines after it. -/
theorem main_split (𝒱₀ : Variants) :
    Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact pre_fresh) main_chain

/-- The lines after the region touch only the region's arrays and buffers that bypass it. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem post_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- They write no array of the region. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals
    intro w
    fin_cases w <;> simp only [StableHlo.reshape_writes, Finset.mem_singleton] <;>
      exact StableHlo.devRef_ne_of_ne (by decide)

/-- The region finds the argument as launched. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The argument ends as launched: no later line writes it and it is no array of the region. -/
theorem W_arg (dats : (p : Fin _) → (c : Dev nD) → Dat τ (Elt F) Unit ℕ (UR sig nD τ) ℕ ((cfgs (F := F)) p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg m c

/-- Window `w`'s block at point `t`, read off its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The input window's staging buffer holds its block at every point, for any proof data that starts from the
    region's entry contents and whose body leaves that block in place. -/
theorem before_input {c : Dev nD} (dat : Dat τ (Elt F) Unit ℕ (UR sig nD τ) ℕ (cfg0 (F := F)) c)
    (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- The input's staging buffer at point `t`, -/
abbrev stIn (t : Fin (cfg0 (F := F)).N) : Memref sig .tc .vmem S1x512x512 .f32 := win0_0.stage ((cfg0 (F := F)).slots t 0)
abbrev stIn_whole (t : Fin (cfg0 (F := F)).N) : (stIn (F := F) t).IsWhole := hstage0_0 (((cfg0 (F := F)).slots t 0).cast nbuf0_0)
/-- the output's, -/
abbrev stOut (t : Fin (cfg0 (F := F)).N) : Memref sig .tc .vmem S1x512x512 .f32 := win0_1.stage ((cfg0 (F := F)).slots t 1)
abbrev stOut_whole (t : Fin (cfg0 (F := F)).N) : (stOut (F := F) t).IsWhole := hstage0_1 (((cfg0 (F := F)).slots t 1).cast nbuf0_1)
/-- and the two scratch buffers: the packed edges and the packed weak pixels. -/
abbrev scE : Memref sig .tc .vmem S512x64 .i32 := Memref.whole cc0_scratch0
abbrev scW : Memref sig .tc .vmem S512x64 .i32 := Memref.whole cc0_scratch1

/-- What the region's invariant holds: the two scratch buffers at some contents and the generator register. -/
theorem inv_eq (c : Dev nD) :
    (Pipeline.ΦA spec0 c : sProp 𝕄)
      = iprop(iprop((∃ d, owns (c : Thread nD τ) scE fullShare d) ∗ (∃ d, owns (c : Thread nD τ) scW fullShare d))
          ∗ (∃ r, prngReg c r)) := by
  unfold Pipeline.ΦA; rw [scopedRest0_eq]; simp only [scE, scW, owns_whole]; try rfl

end Cert.KernelIdeal.Hand

end
-- ==== Proof.KI.Loop.lean ====
/- The loop of the kernel: one trip replaces the packed edges `e` by `trip w e`, and the loop ends at the first
   `e` that a trip leaves as it was. -/
module

public import proofs.«01_k».proof.Proof.KI.Kit
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A scratch buffer's contents: 512 rows of 64 words. -/
abbrev Words : Type := S512x64.Idx → BitVec 32

/-- One trip of the loop on the packed edges `e`, the packed weak pixels being `w`. -/
def trip (F : FTy → Type) [FloatOps F] (w e : Words) : Words := k0_pay25 (F := F) 255#32 e w

/-- The condition a trip computes for the next one, from the edges it found. -/
def again (F : FTy → Type) [FloatOps F] (w e : Words) : BitVec 1 :=
  Scalar.cmpf .ogt (k0_pay2 (F := F) (k0_pay27 (F := F) 255#32 e w) (Scalar.ofBits .f32 0x00000000#32) (k0_pay28 (F := F)))
    (Scalar.ofBits .f32 0x00000000#32)

/-- Two facts of the float values the loop needs: the condition holds exactly when the trip changed a word, and
    repeated trips reach an `e` that the next trip does not change. -/
structure Halts (F : FTy → Type) [FloatOps F] : Prop where
  again_iff : ∀ w e : Words, again F w e = 1#1 ↔ trip F w e ≠ e
  stops : ∀ w e : Words, ∃ n, trip F w ((trip F w)^[n] e) = (trip F w)^[n] e

open Classical in
/-- How many trips change something, from the edges `e`. -/
def changes (h : Halts F) (w e : Words) : ℕ := Nat.find (h.stops w e)

/-- The edges the loop ends with, from the edges `e`. -/
def settled (h : Halts F) (w e : Words) : Words := (trip F w)^[changes h w e] e

/-- The loop's last edges are a fixed point of the trip. -/
theorem trip_settled (h : Halts F) (w e : Words) : trip F w (settled h w e) = settled h w e := by
  classical
  exact Nat.find_spec (h.stops w e)

/-- If a trip changes the edges, one trip fewer is left after it, -/
theorem changes_trip (h : Halts F) (w e : Words) (hne : trip F w e ≠ e) : changes h w e = changes h w (trip F w e) + 1 := by
  classical
  unfold changes
  refine (Nat.find_comp_succ (h.stops w e) ?_ ?_).trans ?_
  · obtain ⟨n, hn⟩ := h.stops w (trip F w e)
    exact ⟨n, by simpa only [Function.iterate_succ_apply] using hn⟩
  · simpa using hne
  · congr 1

/-- and the loop ends with the same edges. -/
theorem settled_trip (h : Halts F) (w e : Words) (hne : trip F w e ≠ e) : settled h w (trip F w e) = settled h w e := by
  unfold settled
  rw [changes_trip h w e hne, Function.iterate_succ_apply]

/-- If a trip leaves the edges as they are, the loop ends with them. -/
theorem settled_of_fixed (h : Halts F) (w e : Words) (he : trip F w e = e) : settled h w e = e := by
  classical
  have : changes h w e = 0 := by
    unfold changes
    exact (Nat.find_eq_zero _).2 (by simpa using he)
  unfold settled
  rw [this, Function.iterate_zero_apply]

/-- The loop's function with its condition clear returns at once. -/
theorem loop_done (c : Dev nD) (i : grid0.Coords)
    (arg3 : Memref sig .tc .vmem S512x64 .i32) (harg3 : arg3.IsWhole)
    (arg4 : Memref sig .tc .vmem S512x64 .i32) (harg4 : arg4.IsWhole) (E : Set ℕ) (v : ℕ) (K : BitVec 1 → sProp 𝕄) :
    K 0#1 ⊢ wp frame (wpE (defs₀ (F := F)) Variants.nat c (some v)) E (cc0_while1 i arg3 harg3 arg4 harg4 0#1) K := by
  simp only [cc0_while1_eq_skeleton]; unfold cc0_while1_skel
  rw [if_neg (by decide)]
  exact le_wp_ret _ _ _ _ K

/-- ONE TRIP: the loop's function with its condition set runs the trip and then, at a smaller variant `v`, calls
    itself with the condition the trip computed. -/
theorem loop_trip (c : Dev nD) (i : grid0.Coords)
    (arg3 : Memref sig .tc .vmem S512x64 .i32) (harg3 : arg3.IsWhole)
    (arg4 : Memref sig .tc .vmem S512x64 .i32) (harg4 : arg4.IsWhole) (w e r : Words) (E : Set ℕ) (v v' : ℕ) (hv : v < v')
    (hcall : ∀ K : BitVec 1 → sProp 𝕄,
      iprop(owns (c : Thread nD τ) arg3 fullShare (trip F w e) ∗ owns (c : Thread nD τ) arg4 fullShare w
          ∗ (iprop(owns (c : Thread nD τ) arg3 fullShare r ∗ owns (c : Thread nD τ) arg4 fullShare w) -∗ K 0#1))
        ⊢ wp frame (wpE (defs₀ (F := F)) Variants.nat c (some v)) E (cc0_while1 i arg3 harg3 arg4 harg4 (again F w e)) K)
    (K : BitVec 1 → sProp 𝕄) :
      iprop(owns (c : Thread nD τ) arg3 fullShare e ∗ owns (c : Thread nD τ) arg4 fullShare w
          ∗ (iprop(owns (c : Thread nD τ) arg3 fullShare r ∗ owns (c : Thread nD τ) arg4 fullShare w) -∗ K 0#1))
        ⊢ wp frame (wpE (defs₀ (F := F)) Variants.nat c (some v')) E (cc0_while1 i arg3 harg3 arg4 harg4 1#1) K := by
  simp only [cc0_while1_eq_skeleton]; unfold cc0_while1_skel
  simp only [k0_part5_eq_skeleton, if_true]
  obtain ⟨R, hR⟩ : ∃ R : sProp 𝕄, R = iprop(owns (c : Thread nD τ) arg3 fullShare r ∗ owns (c : Thread nD τ) arg4 fullShare w) := ⟨_, rfl⟩
  simp only [← hR] at hcall ⊢
  unfold owns
  iintro ⟨⟨%f3, %hf3, H3⟩, ⟨%f4, %hf4, H4⟩, Hk⟩
  obtain rfl := harg3.eq_unread hf3
  obtain rfl := harg4.eq_unread hf4
  sl_exec
  have he : arg3.view.readAt (Elt F) (Rect.unit ![0, 0] S512x64.size inb_S512x64_S512x64_0_0).toLoadRect (harg3.unread e) = e :=
    (View.readAt_full _ _ _).trans hf3
  have hw : arg4.view.readAt (Elt F) (Rect.unit ![0, 0] S512x64.size inb_S512x64_S512x64_0_0).toLoadRect (harg4.unread w) = w :=
    (View.readAt_full _ _ _).trans hf4
  have hpay : k0_pay26 (F := F) 255#32 e w = trip F w e := shapeCast_id _ _
  unfold loop_trip.sl.r loop_trip.sl.cst_75
  simp only [he, hw, hpay]
  iapply (wp_call Variants.nat (c : Thread nD τ) _ E v (fun u hu => by cases hu; exact hv))
  iapply (hcall _)
  isplitl [H3]
  · unfold owns; iexists _; isplitr
    swap; · iexact H3
    ipureintro
    rw [View.read_writes_full]
  isplitl [H4]
  · unfold owns; iexists _; isplitr
    swap; · iexact H4
    ipureintro; exact hf4
  iintro HR
  rw [wp_ret]
  imodintro
  iapply Hk
  iexact HR

/-- THE LOOP'S CALL: holding the packed edges `e` and weak pixels `w`, the loop's function with its condition set
    goes on with the settled edges, the weak pixels as they were. By induction on the trips left. -/
theorem loop_call (h : Halts F) (c : Dev nD) (i : grid0.Coords)
    (arg3 : Memref sig .tc .vmem S512x64 .i32) (harg3 : arg3.IsWhole)
    (arg4 : Memref sig .tc .vmem S512x64 .i32) (harg4 : arg4.IsWhole) (w : Words) (E : Set ℕ) (n : ℕ) :
    ∀ (e : Words), changes h w e = n → ∀ (K : BitVec 1 → sProp 𝕄),
      iprop(owns (c : Thread nD τ) arg3 fullShare e ∗ owns (c : Thread nD τ) arg4 fullShare w
          ∗ (iprop(owns (c : Thread nD τ) arg3 fullShare (settled h w e) ∗ owns (c : Thread nD τ) arg4 fullShare w) -∗ K 0#1))
        ⊢ wp frame (wpE (defs₀ (F := F)) Variants.nat c (some (n + 1))) E (cc0_while1 i arg3 harg3 arg4 harg4 1#1) K := by
  have hstop : ∀ (e : Words) (v : ℕ), trip F w e = e → ∀ (K : BitVec 1 → sProp 𝕄),
      iprop(owns (c : Thread nD τ) arg3 fullShare e ∗ owns (c : Thread nD τ) arg4 fullShare w
          ∗ (iprop(owns (c : Thread nD τ) arg3 fullShare (settled h w e) ∗ owns (c : Thread nD τ) arg4 fullShare w) -∗ K 0#1))
        ⊢ wp frame (wpE (defs₀ (F := F)) Variants.nat c (some (v + 1))) E (cc0_while1 i arg3 harg3 arg4 harg4 1#1) K := by
    intro e v he K
    refine loop_trip c i arg3 harg3 arg4 harg4 w e _ E v (v + 1) (Nat.lt_succ_self v) (fun K' => ?_) K
    have hb : again F w e = 0#1 := by
      have := (h.again_iff w e).not.2 (by simpa using he)
      revert this
      generalize again F w e = b
      revert b; decide
    rw [hb, he, settled_of_fixed h w e he]
    refine BIBase.Entails.trans ?_ (loop_done c i arg3 harg3 arg4 harg4 E v K')
    iintro ⟨H3, H4, Hk⟩
    iapply Hk
    isplitl [H3] <;> iassumption
  induction n with
  | zero =>
    intro e hn K
    have he : trip F w e = e := by
      by_contra hne
      have := changes_trip h w e hne
      omega
    exact hstop e 0 he K
  | succ n ih =>
    intro e hn K
    by_cases he : trip F w e = e
    · exact hstop e (n + 1) he K
    · refine loop_trip c i arg3 harg3 arg4 harg4 w e _ E (n + 1) (n + 1 + 1) (Nat.lt_succ_self _) (fun K' => ?_) K
      have hc := changes_trip h w e he
      rw [(h.again_iff w e).2 he, ← settled_trip h w e he]
      exact ih (trip F w e) (by omega) K'

end Cert.KernelIdeal.Hand

end
-- ==== Proof.KI.Body.lean ====
/- What the kernel body computes from one block of the input: the packed edges and weak pixels before the loop, and
   the block it stores. -/
module

public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The strong pixels of a block, as zeros and ones, -/
def strongMask (x : Vec F S1x512x512 .f32) : FVec F S512x512 .f32 :=
  k0_pay15 (k0_pay10 x) (k0_pay11 x) (k0_pay12 x) (k0_pay13 x)
/-- the weak pixels, -/
def weakMask (x : Vec F S1x512x512 .f32) : FVec F S512x512 .f32 :=
  k0_pay16 (k0_pay10 x) (k0_pay11 x) (k0_pay12 x) (k0_pay13 x)
/-- the row index the packing matrix is made of, -/
def rowIota : IVec S512x64 32 := iota .tc S512x64 32 [0] iota_S512x64_d0_w32
/-- the strong pixels packed, -/
def packE (x : Vec F S1x512x512 .f32) : Words :=
  k0_pay21 (F := F) (strongMask x) (k0_pay17 rowIota) (k0_pay18 rowIota) k0_pay19
/-- and the weak pixels packed. -/
def packW (x : Vec F S1x512x512 .f32) : Words :=
  k0_pay22 (F := F) (weakMask x) (k0_pay17 rowIota) (k0_pay18 rowIota) k0_pay19

/-- The block the body stores, from the input block `x`. -/
def outBlk (h : Halts F) (x : Vec F S1x512x512 .f32) : Vec F S1x512x512 .f32 :=
  k0_pay1 (F := F) k0_pay23 (settled h (packW x) (packE x))

set_option maxHeartbeats 1600000 in
/-- THE BODY: on whole staging and scratch buffers, the input's at `x`, the others at anything, the body leaves the
    input as it was and `outBlk x` in the output's buffer. -/
theorem body_triple (h : Halts F) (c : Dev nD) (i : grid0.Coords)
    (arg1 : Memref sig .tc .vmem S1x512x512 .f32) (harg1 : arg1.IsWhole)
    (arg2 : Memref sig .tc .vmem S1x512x512 .f32) (harg2 : arg2.IsWhole)
    (arg3 : Memref sig .tc .vmem S512x64 .i32) (harg3 : arg3.IsWhole)
    (arg4 : Memref sig .tc .vmem S512x64 .i32) (harg4 : arg4.IsWhole)
    (x : Vec F S1x512x512 .f32) (E : Set ℕ) (K : PUnit → sProp 𝕄) :
    iprop(owns (c : Thread nD τ) arg1 fullShare x ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x ∗ owns (c : Thread nD τ) arg2 fullShare (outBlk h x)
            ∗ (∃ d, owns (c : Thread nD τ) arg3 fullShare d) ∗ (∃ d, owns (c : Thread nD τ) arg4 fullShare d)) -∗ K ⟨⟩))
      ⊢ wp frame (wpE (defs₀ (F := F)) Variants.nat c none) E
          (cc0__canny_kernel i arg1 harg1 arg2 harg2 arg3 harg3 arg4 harg4) K := by
  simp only [cc0__canny_kernel_eq_skeleton]; unfold cc0__canny_kernel_skel
  simp only [k0_part1_eq_skeleton, k0_part2_eq_skeleton, k0_part3_eq_skeleton, k0_part4_eq_skeleton]
  obtain ⟨R, hR⟩ : ∃ R : sProp 𝕄, R = iprop(owns (c : Thread nD τ) arg1 fullShare x ∗ owns (c : Thread nD τ) arg2 fullShare (outBlk h x)
            ∗ (∃ d, owns (c : Thread nD τ) arg3 fullShare d) ∗ (∃ d, owns (c : Thread nD τ) arg4 fullShare d)) := ⟨_, rfl⟩
  simp only [← hR]
  unfold owns
  iintro ⟨⟨%f0, %hf0, H0⟩, ⟨%d1, %f1, -, H1⟩, ⟨%ds0, %fs0, -, H3⟩, ⟨%ds1, %fs1, -, H4⟩, Hk⟩
  obtain rfl := harg1.eq_unread hf0
  sl_exec
  have hx : arg1.view.readAt (Elt F) (Rect.unit ![0, 0, 0] S1x512x512.size inb_S1x512x512_S1x512x512_0_0_0).toLoadRect (harg1.unread x) = x :=
    (View.readAt_full _ _ _).trans hf0
  have hE : k0_pay21 (F := F) (body_triple.sl.r_4 c arg1 harg1 x) (k0_pay17 body_triple.sl.v94) (k0_pay18 body_triple.sl.v94)
      k0_pay19 = packE x := by
    unfold body_triple.sl.r_4 body_triple.sl.v94 body_triple.sl.r_3 body_triple.sl.r_2 body_triple.sl.r_1 body_triple.sl.r
    simp only [hx]; rfl
  have hW : k0_pay22 (F := F) (body_triple.sl.r_5 c arg1 harg1 x) (k0_pay17 body_triple.sl.v94) (k0_pay18 body_triple.sl.v94)
      k0_pay19 = packW x := by
    unfold body_triple.sl.r_5 body_triple.sl.v94 body_triple.sl.r_3 body_triple.sl.r_2 body_triple.sl.r_1 body_triple.sl.r
    simp only [hx]; rfl
  iapply (wp_call Variants.nat (c : Thread nD τ) none E (changes h (packW x) (packE x) + 1) (fun u hu => by cases hu))
  iapply (loop_call h c i arg3 harg3 arg4 harg4 (packW x) E _ (packE x) rfl _)
  isplitl [H3]
  · unfold owns; iexists _; isplitr
    swap; · iexact H3
    ipureintro
    rw [View.read_writes_full]; exact hE
  isplitl [H4]
  · unfold owns; iexists _; isplitr
    swap; · iexact H4
    ipureintro
    rw [View.read_writes_full]; exact hW
  unfold owns
  iintro ⟨⟨%f3, %hf3, H3⟩, ⟨%f4, %hf4, H4⟩⟩
  obtain rfl := harg3.eq_unread hf3
  sl_exec
  have h3 : arg3.view.readAt (Elt F) (Rect.unit ![0, 0] ![512, 64] inb_S512x64_S512x64_0_0).toLoadRect
      (harg3.unread (settled h (packW x) (packE x))) = settled h (packW x) (packE x) :=
    (View.readAt_full (s := S512x64) _ _ _).trans hf3
  rw [wp_ret]
  imodintro
  iapply Hk
  rw [hR]
  isplitl [H0]
  · unfold owns; iexists _; isplitr
    swap; · iexact H0
    ipureintro; exact hf0
  isplitl [H1]
  · unfold owns; iexists _; isplitr
    swap; · iexact H1
    ipureintro
    exact (View.read_writes_full (s := S1x512x512) _ _ _ _ _).trans (congrArg (k0_pay1 (F := F) k0_pay23) h3)
  isplitl [H3]
  · iexists _; unfold owns; iexists _; isplitr
    swap; · iexact H3
    ipureintro; rfl
  iexists _; unfold owns; iexists _; isplitr
  swap; · iexact H4
  ipureintro; rfl

end Cert.KernelIdeal.Hand

end
-- ==== Proof.KI.Frame.lean ====
/- The launch of the kernel: every run ends, the argument is unchanged, and the region's result array holds, block by
   block, what the body computes from the input's blocks. -/
module

public import proofs.«01_k».proof.Proof.KI.Body
public import Idealize.ShloMosaic.Lib.Claim
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (h : Halts F) (m : (ℓ : Loc nD τ sig) → Buf (Elt F) ℓ) (ρ : Dev nD → PrngReg)

/-- The proof data of the launch on core `c`: the arrays as the region finds them; after the body at point `t` the
    input's buffer at its block and the output's at the body's result on that block; nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => outBlk h (iblk m c 0 t)
  Φ _ := Pipeline.ΦA spec0 c
  q _ := fullShare
  owed _ := 0

/-- The data start from the region's entry contents. -/
theorem A_eq (c : Dev nD) (w : Fin (cfg0 (F := F)).W) : (dats h m 0 c).A w = V m c (Pipeline.arrRef spec0 w) := by
  dsimp only [dats]
/-- After the body the input's buffer holds its block, -/
theorem after_in (c : Dev nD) (t : Fin (cfg0 (F := F)).N) : (dats h m 0 c).after 0 t = iblk m c 0 t := rfl
/-- and the output's the body's result on it. -/
theorem after_out (c : Dev nD) (t : Fin (cfg0 (F := F)).N) : (dats h m 0 c).after 1 t = outBlk h (iblk m c 0 t) := rfl
/-- Before the body the input's buffer holds its block. -/
theorem before_in (c : Dev nD) (t : Fin (cfg0 (F := F)).N) (d) : (dats h m 0 c).before 0 t d = iblk m c 0 t :=
  before_input m (dats h m 0 c) (A_eq h m c 0) (after_in h m c) t d

/-- What the body is called with at point `t`, -/
def bodyPre (c : Dev nD) (t : Fin (cfg0 (F := F)).N) : sProp 𝕄 :=
  iprop((dats h m 0 c).Φ t.castSucc ∗ (dats h m 0 c).owesAt () t.castSucc
    ∗ (∃ d, owns (c : Thread nD τ) (stIn t) fullShare ((dats h m 0 c).before 0 t d))
    ∗ (∃ d, owns (c : Thread nD τ) (stOut t) fullShare ((dats h m 0 c).before 1 t d)))
/-- and what it gives back. -/
def bodyPost (c : Dev nD) (t : Fin (cfg0 (F := F)).N) : sProp 𝕄 :=
  iprop((dats h m 0 c).Φ t.succ ∗ (dats h m 0 c).owesAt () t.succ
    ∗ owns (c : Thread nD τ) (stIn t) fullShare ((dats h m 0 c).after 0 t)
    ∗ owns (c : Thread nD τ) (stOut t) fullShare ((dats h m 0 c).after 1 t))

/-- The body at any point does what the proof data say. -/
theorem body_sound (c : Dev nD) (t : Fin (cfg0 (F := F)).N) :
    bodyPre h m c t ⊢ wp frame (wpE (defs₀ (F := F)) Variants.nat c none) Set.univ (bodyAt0 t) (fun _ => bodyPost h m c t) := by
  unfold bodyPre bodyPost bodyAt0
  simp only [before_in]
  rw [show (dats h m 0 c).Φ t.succ = (dats h m 0 c).Φ t.castSucc from rfl,
    show (dats h m 0 c).owesAt () t.succ = (dats h m 0 c).owesAt () t.castSucc from rfl,
    after_in, after_out]
  rw [show (dats h m 0 c).Φ t.castSucc = Pipeline.ΦA spec0 c from rfl, inv_eq]
  iintro ⟨⟨⟨HS0, HS1⟩, Hg⟩, Ho, ⟨%d0, H0⟩, ⟨%d1, H1⟩⟩
  iapply (body_triple h c (grid0.coords t) _ _ _ _ _ _ _ _ (iblk m c 0 t) Set.univ _)
  isplitl [H0]; · iexact H0
  isplitl [H1]; · iexists _; iexact H1
  isplitl [HS0]; · iexact HS0
  isplitl [HS1]; · iexact HS1
  iintro ⟨H0, H1, HS0, HS1⟩
  isplitl [HS0 HS1 Hg]
  · isplitl [HS0 HS1]
    · isplitl [HS0]
      · iexact HS0
      iexact HS1
    iexact Hg
  isplitl [Ho]; · iexact Ho
  isplitl [H0]; · iexact H0
  iexact H1

/-- The body the launch calls at point `t`'s buffers is the kernel's. -/
theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The launch's obligation on the body, at every point. -/
theorem body_obligation (c : Dev nD) :
    BodyObligation (dats (F := F) h m 0 c) (defs₀ (F := F)) Variants.nat () Set.univ := fun t => by
  rw [bigSep_W0, bigSep_W0, body_row]
  exact triple_restated (body_sound h m c t) rfl .rfl fun _ => .rfl

set_option backward.isDefEq.respectTransparency.types false in
set_option maxHeartbeats 800000 in
/-- THE LAUNCH: every weakly fair run of @main ends with the arrays at what the proof data say, the other buffers at
    what the later lines make of them, and every semaphore at zero. -/
theorem launch_run : θ_run defs (onTc (τ := τ) (main (F := F))) (s₀ m ρ)
    (fun r => (Pipeline.FramePost (cfgs (F := F)) (dats h m) 0 (Pipeline.afterTail₀ (cfgs (F := F)) (dats h m) 0 (V0 m) [hostOps1])) r
      ∧ r.2.sem = fun _ => 0) :=
  Pipeline.θ_run_frame_around (Q' := _) (cfgs (F := F)) (dats h m) (0 : Fin 1) launch0 defs₀ Variants.nat m ρ main
    (hbody := fun c => (body_obligation h m c).loose) (hshare := fun c => (dats h m 0 c).share_full fun _ => rfl)
    (howed := fun _ _ => rfl) (V₀ := V0 m) (opss := [hostOps1]) (hsub := post_sub) (hfresh := post_fresh') (hkeep := post_keeps)
    (hmain := main_split m Variants.nat) (hA := A_eq h m) (hΦ := fun _ _ => rfl)

/-- What the region leaves in its result array. -/
def regionOut (c : Dev nD) : Buf (Elt F) ((c.tc : Thread nD τ).loc main_v1) := (dats h m 0 c).arrAt 1 (cfg0 (F := F)).N

/-- The result of @main: the region's result array, reshaped. -/
theorem result_eq (c : Dev nD) :
    Pipeline.afterTail₀ (cfgs (F := F)) (dats h m) 0 (V0 m) [hostOps1] c main_v2
      = shapeCast _ (regionOut h m c) shapeCasts_S96x512x512_S32x3x512x512 := by
  have htail : ∀ U : Valuation τ sig (Elt F), StableHlo.after (List.flatten [hostOps1]) U (Proc.devRef .tc main_v2)
      = shapeCast _ (U (Proc.devRef .tc main_v1)) shapeCasts_S96x512x512_S32x3x512x512 := by
    intro U
    simp only [hostOps1, List.flatten_cons, List.flatten_nil, List.append_nil]
    after_results <;> rfl
  exact (htail (Pipeline.withArrays spec0 c (V0 m c) fun w => (dats h m 0 c).arrAt w (cfg0 (F := F)).N)).trans
    (congrArg (fun b => shapeCast _ b shapeCasts_S96x512x512_S32x3x512x512)
      (Pipeline.withArrays_arr spec0 (launch0 (F := F)).win.arr_inj c (V0 m c) _ 1))

/-- THE RUN: every weakly fair run of @main ends with the result at the reshaped region output, the argument
    unchanged, and every semaphore at zero. -/
theorem run : θ_run defs (onTc (τ := τ) (main (F := F))) ⟨m, fun _ => 0, ρ⟩ (fun r => (∀ c : Dev nD,
      r.2.mem ((c.tc : Thread nD τ).loc main_v2) = shapeCast _ (regionOut h m c) shapeCasts_S96x512x512_S32x3x512x512
      ∧ r.2.mem ((c.tc : Thread nD τ).loc main_arg0) = m ((c.tc : Thread nD τ).loc main_arg0))
      ∧ r.2.sem = fun _ => 0) :=
  (θ_run defs _ _).mono (fun _ hr => ⟨fun c =>
    ⟨((hr.1 c).2 main_v2 (Pipeline.mem_restRefs_of (win := spec0) main_v2 (by decide) (by decide))).trans (result_eq h m c),
     ((hr.1 c).2 main_arg0 (Pipeline.mem_restRefs_of (win := spec0) main_arg0 (by decide) (by decide))).trans (W_arg m (dats h m) c)⟩, hr.2⟩)
    (launch_run h m ρ)

end Cert.KernelIdeal.Hand

end
-- ==== Proof.KI.Halts.lean ====
/- The loop stops: its condition holds exactly when the last trip changed a word, and since every trip after the first
   only adds bits, some trip changes none. -/
module

public import proofs.«01_k».proof.Proof.KI.Loop
public import Idealize.ShloMosaic.PureOps.Reduce

@[expose] public section

set_option maxRecDepth 16384

noncomputable section

namespace Cert.KernelIdeal.Hand

open Cert.KernelIdeal Cert.KernelIdeal.Gen
open Idealize.ShloMosaic Idealize.ShloMosaic.Tactic

variable {F : FTy → Type} [FloatOps F]

/-- The six facts of `0`, `1` and `−∞` under maximum and comparison that the loop's condition reads. -/
structure MaxTable (F : FTy → Type) [FloatOps F] : Prop where
  comm : Std.Commutative (FloatOps.maximumf (F := F) (φ := .f32))
  assoc : Std.Associative (FloatOps.maximumf (F := F) (φ := .f32))
  oo : FloatOps.maximumf (F := F) (φ := .f32) (FloatOps.ofBits .f32 0x3F800000#32) (FloatOps.ofBits .f32 0x3F800000#32) = FloatOps.ofBits .f32 0x3F800000#32
  oz : FloatOps.maximumf (F := F) (φ := .f32) (FloatOps.ofBits .f32 0x3F800000#32) (FloatOps.ofBits .f32 0x00000000#32) = FloatOps.ofBits .f32 0x3F800000#32
  zz : FloatOps.maximumf (F := F) (φ := .f32) (FloatOps.ofBits .f32 0x00000000#32) (FloatOps.ofBits .f32 0x00000000#32) = FloatOps.ofBits .f32 0x00000000#32
  ob : FloatOps.maximumf (F := F) (φ := .f32) (FloatOps.ofBits .f32 0x3F800000#32) (FloatOps.ofBits .f32 0xFF800000#32) = FloatOps.ofBits .f32 0x3F800000#32
  zb : FloatOps.maximumf (F := F) (φ := .f32) (FloatOps.ofBits .f32 0x00000000#32) (FloatOps.ofBits .f32 0xFF800000#32) = FloatOps.ofBits .f32 0x00000000#32
  gt_oz : Scalar.cmpf (F := F) (φ := .f32) .ogt (FloatOps.ofBits .f32 0x3F800000#32) (FloatOps.ofBits .f32 0x00000000#32) = 1#1
  gt_zz : Scalar.cmpf (F := F) (φ := .f32) .ogt (FloatOps.ofBits .f32 0x00000000#32) (FloatOps.ofBits .f32 0x00000000#32) = 0#1

/-- The maximum of zeros and ones from `−∞` over a nonempty set: one if any of them is, zero if none is. -/
theorem fold_bits (T : MaxTable F) {ι : Type} [DecidableEq ι] (p : ι → Prop) [DecidablePred p] (s : Finset ι) :
    haveI := T.comm
    haveI := T.assoc
    s.fold FloatOps.maximumf (FloatOps.ofBits (F := F) .f32 0xFF800000#32)
        (fun i => if p i then FloatOps.ofBits .f32 0x3F800000#32 else FloatOps.ofBits .f32 0x00000000#32)
      = if ∃ i ∈ s, p i then FloatOps.ofBits .f32 0x3F800000#32
        else if s.Nonempty then FloatOps.ofBits .f32 0x00000000#32 else FloatOps.ofBits .f32 0xFF800000#32 := by
  haveI := T.comm
  haveI := T.assoc
  induction s using Finset.induction_on with
  | empty => simp
  | insert a s ha ih =>
    rw [Finset.fold_insert ha, ih]
    have hzo := (T.comm.comm (FloatOps.ofBits .f32 0x00000000#32) (FloatOps.ofBits .f32 0x3F800000#32)).trans T.oz
    by_cases hp : p a
    · rw [if_pos hp, if_pos (c := ∃ i ∈ insert a s, p i) ⟨a, Finset.mem_insert_self a s, hp⟩]
      split_ifs
      · exact T.oo
      · exact T.oz
      · exact T.ob
    · rw [if_neg hp]
      have hiff : (∃ i ∈ insert a s, p i) ↔ ∃ i ∈ s, p i := by
        constructor
        · rintro ⟨i, hi, hpi⟩
          rcases Finset.mem_insert.1 hi with rfl | hi
          · exact absurd hpi hp
          · exact ⟨i, hi, hpi⟩
        · rintro ⟨i, hi, hpi⟩
          exact ⟨i, Finset.mem_insert_of_mem hi, hpi⟩
      simp only [hiff, Finset.insert_nonempty, if_true]
      split_ifs
      · exact hzo
      · exact T.zz
      · exact T.zb

/-- The loop's condition holds exactly when the trip changed a word. -/
theorem again_iff_of (T : MaxTable F) (w e : Words) : again F w e = 1#1 ↔ trip F w e ≠ e := by
  haveI := T.comm
  haveI := T.assoc
  classical
  have hsrc : shapeCast S1x512x64 (select (k0_pay27 (F := F) 255#32 e w) (k0_pay28 (F := F))
        (broadcast S512x64 (Scalar.ofBits (F := F) .f32 0x00000000#32))) shapeCasts_S512x64_S1x512x64
      = fun i => if trip F w e (Shape.reshapeEquiv shapeCasts_S512x64_S1x512x64 i) ≠ e (Shape.reshapeEquiv shapeCasts_S512x64_S1x512x64 i)
          then FloatOps.ofBits .f32 0x3F800000#32 else FloatOps.ofBits .f32 0x00000000#32 := by
    funext i
    generalize hx : Shape.reshapeEquiv shapeCasts_S512x64_S1x512x64 i = x
    show Scalar.select (IntOp.cmpi .ne (trip F w e (Shape.reshapeEquiv shapeCasts_S512x64_S1x512x64 i)) (e (Shape.reshapeEquiv shapeCasts_S512x64_S1x512x64 i)))
      (FloatOps.ofBits .f32 0x3F800000#32) (FloatOps.ofBits .f32 0x00000000#32) = _
    rw [hx]
    by_cases hne : trip F w e x = e x
    · rw [if_neg (by simpa using hne), hne]
      simp [IntOp.cmpi, Scalar.select]
    · rw [if_pos hne]
      have hb : (trip F w e x != e x) = true := by simpa using hne
      simp [IntOp.cmpi, Scalar.select, hb]
  have hval : k0_pay2 (F := F) (k0_pay27 (F := F) 255#32 e w) (Scalar.ofBits .f32 0x00000000#32) (k0_pay28 (F := F))
      = if ∃ x, trip F w e x ≠ e x then FloatOps.ofBits .f32 0x3F800000#32 else FloatOps.ofBits .f32 0x00000000#32 := by
    have hone : ∀ v : FVec F S1 .f32, extractAt ![0, 0, 0] (shapeCast S1x1x1 v shapeCasts_S1_S1x1x1) inpos_S1x1x1_p0_0_0 = v (ix1 0) :=
      fun v => congrArg v (funext fun a => by fin_cases a; exact Subsingleton.elim (α := Fin 1) _ _)
    unfold k0_pay2
    simp only [hone]
    rw [hsrc]
    refine ((multiReduction_maximumf_eq_fold _ _ reduces_S1x512x64_S1 (.inl rfl) rfl (ix1 0)).trans
      (fold_bits T (fun i => trip F w e (Shape.reshapeEquiv shapeCasts_S512x64_S1x512x64 i)
        ≠ e (Shape.reshapeEquiv shapeCasts_S512x64_S1x512x64 i)) _)).trans ?_
    have hall : ∀ (i : S1x512x64.Idx) (j : S1.Idx), reduces_S1x512x64_S1.drop i = j := fun i j => by
      funext a; fin_cases a; exact Subsingleton.elim (α := Fin 1) _ _
    have hfil : (Finset.univ.filter fun i : S1x512x64.Idx => reduces_S1x512x64_S1.drop i = ix1 0) = Finset.univ :=
      Finset.filter_true_of_mem fun i _ => hall i _
    rw [hfil]
    have hiff : (∃ i ∈ (Finset.univ : Finset S1x512x64.Idx), trip F w e (Shape.reshapeEquiv shapeCasts_S512x64_S1x512x64 i)
          ≠ e (Shape.reshapeEquiv shapeCasts_S512x64_S1x512x64 i)) ↔ ∃ x, trip F w e x ≠ e x :=
      ⟨fun ⟨i, _, hi⟩ => ⟨_, hi⟩, fun ⟨x, hx⟩ => ⟨(Shape.reshapeEquiv shapeCasts_S512x64_S1x512x64).symm x, Finset.mem_univ _, by simpa using hx⟩⟩
    have hne : (Finset.univ : Finset S1x512x64.Idx).Nonempty := ⟨ix3 0 0 0, Finset.mem_univ _⟩
    simp only [hiff, hne, if_true]
  unfold again
  rw [hval]
  have hex : (∃ x, trip F w e x ≠ e x) ↔ trip F w e ≠ e := Function.ne_iff.symm
  by_cases hne : trip F w e ≠ e
  · rw [if_pos (hex.2 hne)]; exact iff_of_true T.gt_oz hne
  · rw [if_neg (fun h => hne (hex.1 h))]
    refine iff_of_false (fun h => ?_) hne
    exact absurd (T.gt_zz.symm.trans h) (by decide)

/-- A trip gives the weak pixels among those of `e` and others. -/
theorem trip_apply (w e : Words) (x : S512x64.Idx) : ∃ z : BitVec 32, trip F w e x = w x &&& (e x ||| z) := by
  have h : ∃ a b c d f g : BitVec 32, trip F w e x = w x &&& ((((((e x ||| a) ||| b) ||| c) ||| d) ||| f) ||| g) :=
    ⟨_, _, _, _, _, _, rfl⟩
  obtain ⟨a, b, c, d, f, g, h⟩ := h
  exact ⟨a ||| (b ||| (c ||| (d ||| (f ||| g)))), by rw [h]; simp only [BitVec.or_assoc]⟩

/-- What a trip gives has only weak pixels, -/
theorem trip_sub (w e : Words) (x : S512x64.Idx) : trip F w e x &&& w x = trip F w e x := by
  obtain ⟨z, hz⟩ := trip_apply (F := F) w e x
  rw [hz]; ext i hi; simp; tauto
/-- and a trip loses nothing of edges that are weak pixels. -/
theorem trip_grows (w e : Words) (x : S512x64.Idx) (he : e x &&& w x = e x) : e x &&& trip F w e x = e x := by
  obtain ⟨z, hz⟩ := trip_apply (F := F) w e x
  rw [hz]
  have h := fun (i : ℕ) (hi : i < 32) => congrArg (fun b : BitVec 32 => b[i]'hi) he
  ext i hi
  have := h i hi
  simp at this ⊢
  tauto

/-- The words of `e` summed, as numbers. -/
def total (e : Words) : ℕ := ∑ x, (e x).toNat

theorem toNat_le_of_sub (a b : BitVec 32) (h : a &&& b = a) : a.toNat ≤ b.toNat := by
  rw [← h, BitVec.toNat_and]; exact Nat.and_le_right

/-- Repeated trips reach edges that the next trip does not change. -/
theorem trip_stops (w e : Words) : ∃ n, trip F w ((trip F w)^[n] e) = (trip F w)^[n] e := by
  by_contra hno
  push Not at hno
  have hsub : ∀ n x, (trip F w)^[n + 1] e x &&& w x = (trip F w)^[n + 1] e x := fun n x => by
    rw [Function.iterate_succ_apply']; exact trip_sub w _ x
  have hlt : ∀ n, total ((trip F w)^[n + 1] e) < total ((trip F w)^[n + 2] e) := by
    intro n
    have hg : ∀ x, (trip F w)^[n + 1] e x &&& (trip F w)^[n + 2] e x = (trip F w)^[n + 1] e x := fun x => by
      rw [Function.iterate_succ_apply' (trip F w) (n + 1)]
      exact trip_grows w _ x (hsub n x)
    obtain ⟨x, hx⟩ := Function.ne_iff.1 (hno (n + 1))
    rw [← Function.iterate_succ_apply' (trip F w) (n + 1)] at hx
    refine Finset.sum_lt_sum (fun y _ => toNat_le_of_sub _ _ (hg y)) ⟨x, Finset.mem_univ x, ?_⟩
    exact lt_of_le_of_ne (toNat_le_of_sub _ _ (hg x)) fun h => hx (BitVec.eq_of_toNat_eq h.symm)
  have hge : ∀ n, n ≤ total ((trip F w)^[n + 1] e) := by
    intro n
    induction n with
    | zero => exact Nat.zero_le _
    | succ n ih => exact lt_of_le_of_lt ih (hlt n)
  have hbd : ∀ e : Words, total e ≤ Fintype.card S512x64.Idx * 2 ^ 32 := fun e => by
    unfold total
    refine (Finset.sum_le_card_nsmul _ _ (2 ^ 32) fun x _ => (e x).isLt.le).trans ?_
    rw [Finset.card_univ, smul_eq_mul]
  have := (hge (Fintype.card S512x64.Idx * 2 ^ 32 + 1)).trans (hbd _)
  omega

/-- The two facts of the float values the loop needs, from the table. -/
theorem halts_of (T : MaxTable F) : Halts F := ⟨again_iff_of T, trip_stops⟩

end Cert.KernelIdeal.Hand

end
-- ==== Proof.KI.Table.lean ====
/- The loop stops at the ideal values. -/
module

public import proofs.«01_k».proof.Proof.KI.Halts
public import Idealize.ShloMosaic.PureOps.Ideal
public import Idealize.ShloMosaic.PureOps.Ideal.Laws

@[expose] public section

noncomputable section

namespace Cert.KernelIdeal.Hand

open Idealize.ShloMosaic

/-- Zero, one and −∞ under maximum and comparison, at the ideal values. -/
theorem maxTable_ideal : MaxTable Ideal where
  comm := inferInstance
  assoc := inferInstance
  oo := by simp
  oz := by simp
  zz := by simp
  ob := by simp [Ideal.ofBits, Ideal.ieee]
  zb := by simp [Ideal.ofBits, Ideal.ieee]
  gt_oz := by simp [Ideal.cmp]
  gt_zz := by simp [Ideal.cmp]

/-- The loop stops at the ideal values. -/
theorem halts_ideal : Halts Ideal := halts_of maxTable_ideal

end Cert.KernelIdeal.Hand

end
-- ==== Proof.KI.Region.lean ====
/- The region's two arrays read at an index: the block of point `t` is plane `t`, so the result array holds, plane by
   plane, what the body computes from the input's plane. -/
module

public import proofs.«01_k».proof.Proof.KI.Frame
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (h : Halts F) (m : (ℓ : Loc nD τ sig) → Buf (Elt F) ℓ)

/-- The plane of a grid point. -/
def planeIx (t : Fin (cfg0 (F := F)).N) : Fin 96 := ⟨t.val, lt_of_lt_of_eq t.isLt N_0⟩

/-- The input's block at point `t` is block `t` along the planes and the whole of the other two axes; -/
theorem index_in : ∀ t : Fin grid0.N, win0_0.index t 0 = t.val ∧ win0_0.index t 1 = 0 ∧ win0_0.index t 2 = 0 := by
  decide +kernel
/-- so is the output's. -/
theorem index_out : ∀ t : Fin grid0.N, win0_1.index t 0 = t.val ∧ win0_1.index t 1 = 0 ∧ win0_1.index t 2 = 0 := by
  decide +kernel

/-- Reading the input array through block `t` reads plane `t`. -/
theorem read_in (t : Fin (cfg0 (F := F)).N) (A : S96x512x512.Idx → Elt F .f32) (r k : Fin 512) :
    (((cfg0 (F := F)).win 0).blk t).view.read (Elt F) A (ix3 0 r k) = A (ix3 (planeIx t) r k) := by
  obtain ⟨e0, e1, e2⟩ := index_in t
  refine congrArg A (funext fun a => Fin.ext ?_)
  match a with
  | ⟨0, _⟩ => show win0_0.index t 0 * 1 + 1 * 0 = t.val; rw [e0]; omega
  | ⟨1, _⟩ => show win0_0.index t 1 * 512 + 1 * r.val = r.val; rw [e1]; omega
  | ⟨2, _⟩ => show win0_0.index t 2 * 512 + 1 * k.val = k.val; rw [e2]; omega

/-- Reading the output array through block `t` reads plane `t`. -/
theorem read_out (t : Fin (cfg0 (F := F)).N) (A : S96x512x512.Idx → Elt F .f32) (r k : Fin 512) :
    (((cfg0 (F := F)).win 1).blk t).view.read (Elt F) A (ix3 0 r k) = A (ix3 (planeIx t) r k) := by
  obtain ⟨e0, e1, e2⟩ := index_out t
  refine congrArg A (funext fun a => Fin.ext ?_)
  match a with
  | ⟨0, _⟩ => show win0_1.index t 0 * 1 + 1 * 0 = t.val; rw [e0]; omega
  | ⟨1, _⟩ => show win0_1.index t 1 * 512 + 1 * r.val = r.val; rw [e1]; omega
  | ⟨2, _⟩ => show win0_1.index t 2 * 512 + 1 * k.val = k.val; rw [e2]; omega

/-- The region finds the reshaped argument in its input array. -/
theorem entry_in (c : Dev nD) : V m c main_v0
    = shapeCast S96x512x512 (m ((c.tc : Thread nD τ).loc main_arg0)) shapeCasts_S32x3x512x512_S96x512x512 := by
  show StableHlo.after (List.flatten [hostOps0]) (fun b => m (c, b)) (Proc.devRef .tc main_v0) = _
  simp only [hostOps0, List.flatten_cons, List.flatten_nil, List.append_nil]
  after_results <;> rfl

/-- The block the body loads at point `t` is plane `t` of the reshaped argument. -/
theorem iblk_at (c : Dev nD) (t : Fin (cfg0 (F := F)).N) (r k : Fin 512) : iblk m c 0 t (ix3 0 r k)
    = shapeCast S96x512x512 (m ((c.tc : Thread nD τ).loc main_arg0)) shapeCasts_S32x3x512x512_S96x512x512
        (ix3 (planeIx t) r k) :=
  (read_in t (V m c main_v0) r k).trans (congrFun (entry_in m c) _)

/-- An index of the result array is in block `t` when its plane is `t`. -/
theorem mem_out (t : Fin (cfg0 (F := F)).N) (i : S96x512x512.Idx) (hi : (i 0).val = t.val) :
    i ∈ (((cfg0 (F := F)).win 1).blk t).view.set := by
  obtain ⟨e0, e1, e2⟩ := index_out t
  show i ∈ ((View.whole main_v1).slice (win0_1.rect t)).set
  rw [View.set_slice_whole, Rect.mem_set_unit]
  have h1 : (i 1).val < 512 := (i 1).isLt
  have h2 : (i 2).val < 512 := (i 2).isLt
  intro a
  match a with
  | ⟨0, _⟩ =>
    show win0_1.index t 0 * 1 ≤ (i 0).val ∧ (i 0).val < win0_1.index t 0 * 1 + 1
    rw [e0]; omega
  | ⟨1, _⟩ =>
    show win0_1.index t 1 * 512 ≤ (i 1).val ∧ (i 1).val < win0_1.index t 1 * 512 + 512
    rw [e1]; omega
  | ⟨2, _⟩ =>
    show win0_1.index t 2 * 512 ≤ (i 2).val ∧ (i 2).val < win0_1.index t 2 * 512 + 512
    rw [e2]; omega

/-- An index of a block is one of its rows and columns. -/
theorem eq_unit (y : S1x512x512.Idx) : ∃ r k : Fin 512, y = ix3 0 r k := by
  refine ⟨y 1, y 2, (eq_ix3 (n0 := 1) (n1 := 512) (n2 := 512) y).trans ?_⟩
  have e : @Eq (Fin 1) (y 0) 0 := @Subsingleton.elim (Fin 1) _ _ _
  exact congrArg (fun z : Fin 1 => ix3 z (y 1) (y 2)) e

/-- The region's result is any array that agrees, plane by plane, with the body's result on the input's plane. -/
theorem regionOut_eq (c : Dev nD) (G : S96x512x512.Idx → Elt F .f32)
    (hG : ∀ (t : Fin (cfg0 (F := F)).N) (r k : Fin 512),
      outBlk h (iblk m c 0 t) (ix3 0 r k) = G (ix3 (planeIx t) r k)) :
    regionOut h m c = G := by
  have block : ∀ (t : Fin (cfg0 (F := F)).N) (y : S1x512x512.Idx),
      outBlk h (iblk m c 0 t) y = (((cfg0 (F := F)).win 1).blk t).view.read (Elt F) G y := by
    intro t y
    obtain ⟨r, k, rfl⟩ := eq_unit y
    exact (hG t r k).trans (read_out t G r k).symm
  have tile : ∀ i : S96x512x512.Idx, ∃ t : Fin (cfg0 (F := F)).N,
      ((cfg0 (F := F)).win 1).flush t = true ∧ i ∈ (((cfg0 (F := F)).win 1).blk t).view.set :=
    fun i => ⟨⟨(i 0).val, lt_of_lt_of_eq (i 0).isLt N_0.symm⟩, flush0_1 _, mem_out _ i rfl⟩
  refine (dats h m 0 c).arrAt_eq_of_cover 1 G (fun t _ => ?_) tile
  show ((cfg0 (F := F)).win 1).cut (grid0.coords t) ((dats h m 0 c).after 1 t) = _
  rw [after_out]
  exact funext (block t)

end Cert.KernelIdeal.Hand

end
-- ==== Proof.Math.Flood.lean ====
/- Growing the strong pixels into the weak ones: trips that settle, and a fixed count of trips as long as the plane has
   pixels, both give the pixels that a chain of weak neighbours joins to a strong one. -/
module

public import Mathlib.Data.Fintype.Prod
public import Mathlib.Data.Fintype.Card
public import Mathlib.Data.Finset.Card
public import Mathlib.Tactic.Linarith

@[expose] public section

namespace Canny

/-- A set of pixels, by row and column. -/
abbrev Pixels := ℕ → ℕ → Prop

/-- Two coordinates differ by one at most. -/
def Near (a b : ℕ) : Prop := a ≤ b + 1 ∧ b ≤ a + 1

theorem Near.refl (a : ℕ) : Near a a := ⟨by omega, by omega⟩

/-- The pixels of `W` that are in `K` or beside a pixel of `K`. -/
def Spread (W K : Pixels) : Pixels := fun r c =>
  W r c ∧ ∃ r' c', r' < 512 ∧ c' < 512 ∧ Near r r' ∧ Near c c' ∧ K r' c'

/-- The pixels that a chain of neighbours in `W` joins to one of `S`. -/
inductive Reach (S W : Pixels) : Pixels
  | seed (r c : ℕ) : r < 512 → c < 512 → S r c → Reach S W r c
  | grow (r c r' c' : ℕ) : Reach S W r' c' → r < 512 → c < 512 → Near r r' → Near c c' → W r c → Reach S W r c

theorem Reach.inside {S W : Pixels} {r c : ℕ} (h : Reach S W r c) : r < 512 ∧ c < 512 := by
  cases h with
  | seed _ _ hr hc _ => exact ⟨hr, hc⟩
  | grow _ _ _ _ _ hr hc _ _ _ => exact ⟨hr, hc⟩

/-- Two sets agree on the plane. -/
def Same (K L : Pixels) : Prop := ∀ r < 512, ∀ c < 512, (K r c ↔ L r c)

theorem Spread.congr {W W' K K' : Pixels} (hW : Same W W') (h : Same K K') : Same (Spread W K) (Spread W' K') := by
  intro r hr c hc
  unfold Spread
  rw [hW r hr c hc]
  refine and_congr_right fun _ => exists_congr fun r' => exists_congr fun c' => ?_
  constructor
  · rintro ⟨a, b, n, n', k⟩; exact ⟨a, b, n, n', (h r' a c' b).1 k⟩
  · rintro ⟨a, b, n, n', k⟩; exact ⟨a, b, n, n', (h r' a c' b).2 k⟩

/-- Trips that keep only what is weak, from the strong pixels, once they settle. -/
theorem settled_reach {S W : Pixels} (hSW : ∀ r < 512, ∀ c < 512, S r c → W r c) (K : ℕ → Pixels)
    (h0 : Same (K 0) S) (hs : ∀ n, Same (K (n + 1)) (Spread W (K n))) (N : ℕ) (hN : Same (Spread W (K N)) (K N)) :
    Same (K N) (Reach S W) := by
  have up : ∀ n, ∀ r < 512, ∀ c < 512, K n r c → Reach S W r c := by
    intro n
    induction n with
    | zero => intro r hr c hc h; exact .seed r c hr hc ((h0 r hr c hc).1 h)
    | succ n ih =>
      intro r hr c hc h
      obtain ⟨hw, r', c', hr', hc', nr, nc, hk⟩ := (hs n r hr c hc).1 h
      exact .grow r c r' c' (ih r' hr' c' hc' hk) hr hc nr nc hw
  have low : ∀ n, ∀ r < 512, ∀ c < 512, S r c → K n r c := by
    intro n
    induction n with
    | zero => intro r hr c hc h; exact (h0 r hr c hc).2 h
    | succ n ih =>
      intro r hr c hc h
      exact (hs n r hr c hc).2 ⟨hSW r hr c hc h, r, c, hr, hc, .refl r, .refl c, ih r hr c hc h⟩
  intro r hr c hc
  refine ⟨up N r hr c hc, fun h => ?_⟩
  induction h with
  | seed r c hr hc h => exact low N r hr c hc h
  | grow r c r' c' h hr hc nr nc hw ih =>
    have hi := h.inside
    exact (hN r hr c hc).1 ⟨hw, r', c', hi.1, hi.2, nr, nc, ih hi.1 hi.2⟩

/-- Trips that add what is weak and beside, after as many as the plane has pixels. -/
theorem counted_reach {S W : Pixels} (E : ℕ → Pixels) (h0 : Same (E 0) S)
    (hs : ∀ n, Same (E (n + 1)) (fun r c => E n r c ∨ Spread W (E n) r c)) : Same (E 262144) (Reach S W) := by
  classical
  have up : ∀ n, ∀ r < 512, ∀ c < 512, E n r c → Reach S W r c := by
    intro n
    induction n with
    | zero => intro r hr c hc h; exact .seed r c hr hc ((h0 r hr c hc).1 h)
    | succ n ih =>
      intro r hr c hc h
      rcases (hs n r hr c hc).1 h with h | ⟨hw, r', c', hr', hc', nr, nc, hk⟩
      · exact ih r hr c hc h
      · exact .grow r c r' c' (ih r' hr' c' hc' hk) hr hc nr nc hw
  have mono : ∀ n, ∀ r < 512, ∀ c < 512, E n r c → E (n + 1) r c := fun n r hr c hc h => (hs n r hr c hc).2 (.inl h)
  have low : ∀ n, ∀ r < 512, ∀ c < 512, S r c → E n r c := by
    intro n
    induction n with
    | zero => intro r hr c hc h; exact (h0 r hr c hc).2 h
    | succ n ih => intro r hr c hc h; exact mono n r hr c hc (ih r hr c hc h)
  have still : ∀ n, Same (E (n + 1)) (E n) → Same (E (n + 2)) (E (n + 1)) := by
    intro n h r hr c hc
    rw [hs (n + 1) r hr c hc, hs n r hr c hc]
    exact or_congr (h r hr c hc) (Spread.congr (fun _ _ _ _ => Iff.rfl) h r hr c hc)
  have stays : ∀ n, Same (E (n + 1)) (E n) → ∀ k, Same (E (n + k + 1)) (E (n + k)) := by
    intro n h k
    induction k with
    | zero => exact h
    | succ k ih => exact still (n + k) ih
  let cells : ℕ → Finset (Fin 512 × Fin 512) := fun n => Finset.univ.filter fun p => E n p.1 p.2
  have sub : ∀ n, cells n ⊆ cells (n + 1) := by
    intro n p hp
    simp only [cells, Finset.mem_filter, Finset.mem_univ, true_and] at hp ⊢
    exact mono n p.1 p.1.isLt p.2 p.2.isLt hp
  have fixed : Same (E (262144 + 1)) (E 262144) := by
    by_contra hno
    have grows : ∀ n ≤ 262144, cells n ≠ cells (n + 1) := by
      intro n hn e
      apply hno
      obtain ⟨k, hk⟩ := Nat.exists_eq_add_of_le hn
      have := stays n (fun r hr c hc => by
        have := Finset.ext_iff.1 e (⟨r, hr⟩, ⟨c, hc⟩)
        simp only [cells, Finset.mem_filter, Finset.mem_univ, true_and] at this
        exact this.symm) k
      rw [← hk] at this
      exact this
    have big : ∀ n ≤ 262145, n ≤ (cells n).card := by
      intro n
      induction n with
      | zero => intro _; exact Nat.zero_le _
      | succ n ih =>
        intro hn
        have h1 := ih (by omega)
        have h2 := Finset.card_lt_card (Finset.ssubset_iff_subset_ne.2 ⟨sub n, grows n (by omega)⟩)
        omega
    have h1 := big 262145 le_rfl
    have h2 := Finset.card_le_univ (cells 262145)
    rw [Fintype.card_prod, Fintype.card_fin] at h2
    omega
  intro r hr c hc
  refine ⟨up _ r hr c hc, fun h => ?_⟩
  induction h with
  | seed r c hr hc h => exact low _ r hr c hc h
  | grow r c r' c' h hr hc nr nc hw ih =>
    have hi := h.inside
    exact (fixed r hr c hc).1 ((hs 262144 r hr c hc).2 (.inr ⟨hw, r', c', hi.1, hi.2, nr, nc, ih hi.1 hi.2⟩))

end Canny

end
-- ==== Proof.KI.Words.lean ====
/- The words of the packed planes, bit by bit: eight pixels of a row to a word; a trip on words spreads the pixels it holds
   to their weak neighbours; and unpacking gives one for a pixel held and zero for another. -/
module

public import proofs.«01_k».proof.Proof.KI.Body
public import proofs.«01_k».proof.Proof.Math.Flood
public import Idealize.ShloMosaic.Lib.Pointwise
public import Mathlib.Logic.Equiv.Fin.Basic

@[expose] public section
set_option maxRecDepth 16384
noncomputable section
namespace Cert.KernelIdeal.Hand

open Cert.KernelIdeal Cert.KernelIdeal.Gen
open Idealize.ShloMosaic Idealize.ShloMosaic.Tactic

/-- The words `s` hold the pixels `K`: bit `j` of word `c` is pixel `8c + j`, and no bit from 8 on is set. -/
def Enc (s : Words) (K : Canny.Pixels) : Prop :=
  ∀ (r : Fin 512) (c : Fin 64) (j : ℕ), (s (ix2 r c)).getLsbD j = true ↔ j < 8 ∧ K r (8 * c + j)

/-! ### A trip -/

/-- Bits of a word or of zero, -/
theorem dite_bit {p : Prop} [Decidable p] (a : p → BitVec 32) (b : ¬ p → BitVec 32) (j : ℕ) (P Q : Prop)
    (ha : ∀ h, (a h).getLsbD j = true ↔ P) (hb : ∀ h, (b h).getLsbD j = true ↔ Q) :
    (if h : p then a h else b h).getLsbD j = true ↔ (p ∧ P) ∨ (¬ p ∧ Q) := by
  by_cases h : p
  · rw [dif_pos h, ha h]; tauto
  · rw [dif_neg h, hb h]; tauto

theorem zero_bit (j : ℕ) : (0#32).getLsbD j = true ↔ False := by simp

/-- The or of a word with the words above and below. -/
theorem rows_enc (F : FTy → Type) [FloatOps F] {e : Words} {K : Canny.Pixels} (h : Enc e K) (r : Fin 512) (c : Fin 64) (j : ℕ) :
    (k0_pay24 (F := F) e (ix2 r c)).getLsbD j = true ↔ j < 8 ∧ ∃ r' < 512, Canny.Near r r' ∧ K r' (8 * c + j) := by
  pointwise [k0_pay24]
  simp only [IntOp.ori, BitVec.getLsbD_or, Bool.or_eq_true]
  rw [dite_bit _ _ j False (j < 8 ∧ K (r - 1) (8 * c + j)) (fun _ => zero_bit j) (fun _ => h _ c j),
    dite_bit _ _ j (j < 8 ∧ K (1 + r) (8 * c + j)) False (fun _ => h _ c j) (fun _ => zero_bit j), h r c j]
  have hr := r.isLt
  unfold Canny.Near
  constructor
  · rintro ((⟨hj, k⟩ | (⟨_, k⟩ | ⟨hn, hj, k⟩)) | (⟨hn, hj, k⟩ | ⟨_, k⟩))
    · exact ⟨hj, r, hr, ⟨by omega, by omega⟩, k⟩
    · exact k.elim
    · exact ⟨hj, r - 1, by omega, ⟨by omega, by omega⟩, k⟩
    · exact ⟨hj, 1 + r, by omega, ⟨by omega, by omega⟩, k⟩
    · exact k.elim
  · rintro ⟨hj, r', hr', ⟨n, n'⟩, k⟩
    rcases (by omega : r' = (r : ℕ) ∨ r' + 1 = r ∨ r' = 1 + r) with e1 | e1 | e1
    · subst e1; exact .inl (.inl ⟨hj, k⟩)
    · have : r' = r - 1 := by omega
      subst this; exact .inl (.inr (.inr ⟨by omega, hj, k⟩))
    · subst e1; exact .inr (.inl ⟨by omega, hj, k⟩)

theorem low_bits (j : ℕ) : (255#32).getLsbD j = true ↔ j < 8 := by
  by_cases h : j < 32
  · have key : ∀ i : Fin 32, (255#32).getLsbD i = true ↔ (i : ℕ) < 8 := by decide
    exact key ⟨j, h⟩
  · rw [BitVec.getLsbD_of_ge _ _ (by omega)]
    simp; omega

/-- The columns beside one, from the bits of its word and of the words left and right. -/
theorem beside (P : ℕ → Prop) (c j : ℕ) (hc : c < 64) (hj : j < 8) :
    (((((P (8 * c + j)) ∨ (1 ≤ j ∧ P (8 * c + (j - 1)))) ∨ (j + 1 < 8 ∧ P (8 * c + (j + 1)))) ∨
      (1 ≤ c ∧ j = 0 ∧ P (8 * (c - 1) + 7))) ∨ (c < 63 ∧ j = 7 ∧ P (8 * (1 + c)))) ↔
      ∃ c' < 512, Canny.Near (8 * c + j) c' ∧ P c' := by
  unfold Canny.Near
  constructor
  · rintro ((((k | ⟨h, k⟩) | ⟨h, k⟩) | ⟨h, h', k⟩) | ⟨h, h', k⟩)
    all_goals exact ⟨_, by omega, ⟨by omega, by omega⟩, k⟩
  · rintro ⟨c', hc', ⟨n, n'⟩, k⟩
    rcases (by omega : c' = 8 * c + j ∨ c' + 1 = 8 * c + j ∨ c' = 8 * c + j + 1) with e | e | e
    · subst e; exact .inl (.inl (.inl (.inl k)))
    · by_cases h : 1 ≤ j
      · obtain rfl : c' = 8 * c + (j - 1) := by omega
        exact .inl (.inl (.inl (.inr ⟨h, k⟩)))
      · obtain rfl : c' = 8 * (c - 1) + 7 := by omega
        exact .inl (.inr ⟨by omega, by omega, k⟩)
    · by_cases h : j + 1 < 8
      · subst e; exact .inl (.inl (.inr ⟨h, k⟩))
      · obtain rfl : c' = 8 * (1 + c) := by omega
        exact .inr ⟨by omega, by omega, k⟩

/-- Bits of shifted words. -/
theorem shl_bit (x : BitVec 32) (n j : ℕ) (hn : n < 32) :
    (IntOp.shli .vector x (BitVec.ofNat 32 n)).getLsbD j = true ↔ j < 32 ∧ n ≤ j ∧ x.getLsbD (j - n) = true := by
  have e : (BitVec.ofNat 32 n).toNat = n := by rw [BitVec.toNat_ofNat]; exact Nat.mod_eq_of_lt (by omega)
  unfold IntOp.shli
  rw [if_pos (by rw [e]; exact hn), BitVec.shiftLeft_eq', e, BitVec.getLsbD_shiftLeft]
  simp; tauto

theorem shr_bit (x : BitVec 32) (n j : ℕ) (hn : n < 32) :
    (IntOp.shrui .vector x (BitVec.ofNat 32 n)).getLsbD j = x.getLsbD (n + j) := by
  have e : (BitVec.ofNat 32 n).toNat = n := by rw [BitVec.toNat_ofNat]; exact Nat.mod_eq_of_lt (by omega)
  unfold IntOp.shrui
  rw [if_pos (by rw [e]; exact hn), BitVec.ushiftRight_eq', e, BitVec.getLsbD_ushiftRight]

theorem one_bit (j : ℕ) : (1#32).getLsbD j = true ↔ j = 0 := by
  rw [BitVec.getLsbD_one]; simp

/-- A TRIP on words that hold pixels spreads them to their neighbours in the weak plane. -/
theorem trip_enc {F : FTy → Type} [FloatOps F] {e w : Words} {K W : Canny.Pixels} (he : Enc e K) (hw : Enc w W) :
    Enc (trip F w e) (Canny.Spread W K) := by
  intro r c j
  show (k0_pay25 (F := F) 255#32 e w (ix2 r c)).getLsbD j = true ↔ _
  pointwise [k0_pay25]
  simp only [IntOp.ori, IntOp.andi, BitVec.getLsbD_or, BitVec.getLsbD_and, Bool.or_eq_true, Bool.and_eq_true]
  have u := fun c j => rows_enc F he r c j
  rw [shl_bit _ 1 j (by omega), shr_bit _ 1 j (by omega), shr_bit _ 7 j (by omega), shl_bit _ 7 j (by omega),
    low_bits j]
  simp only [BitVec.getLsbD_and, Bool.and_eq_true, one_bit]
  rw [dite_bit _ _ (7 + j) False (7 + j < 8 ∧ ∃ r' < 512, Canny.Near r r' ∧ K r' (8 * (c - 1) + (7 + j)))
    (fun _ => zero_bit _) (fun _ => u ⟨c - 1, by omega⟩ (7 + j)),
    dite_bit _ _ (j - 7) (j - 7 < 8 ∧ ∃ r' < 512, Canny.Near r r' ∧ K r' (8 * (1 + c) + (j - 7))) False
    (fun h => u ⟨1 + c, by omega⟩ (j - 7)) (fun _ => zero_bit _), u c j, u c (j - 1), u c (1 + j), hw r c j]
  by_cases hj : j < 8
  swap
  · constructor
    · intro h; exact absurd h.1.1 hj
    · intro h; exact absurd h.1 hj
  have b := beside (fun k => ∃ r' < 512, Canny.Near r r' ∧ K r' k) c j c.isLt hj
  have swap : (∃ r' c', r' < 512 ∧ c' < 512 ∧ Canny.Near r r' ∧ Canny.Near (8 * c + j) c' ∧ K r' c') ↔
      ∃ c' < 512, Canny.Near (8 * c + j) c' ∧ ∃ r' < 512, Canny.Near r r' ∧ K r' c' := by
    constructor
    · rintro ⟨r', c', a, b, n, n', k⟩; exact ⟨c', b, n', r', a, n, k⟩
    · rintro ⟨c', b, n', r', a, n, k⟩; exact ⟨r', c', a, b, n, n', k⟩
  unfold Canny.Spread
  rw [swap, ← b]
  constructor
  · rintro ⟨⟨_, hW⟩, h⟩
    refine ⟨hj, hW, ?_⟩
    rcases h with (((⟨_, k⟩ | ⟨⟨_, h1, _, k⟩, _⟩) | ⟨h1, k⟩) | (⟨_, k⟩ | ⟨h1, h2, k⟩)) | ⟨_, h1, (⟨h3, _, k⟩ | ⟨_, k⟩), h2⟩
    · exact .inl (.inl (.inl (.inl k)))
    · exact .inl (.inl (.inl (.inr ⟨h1, k⟩)))
    · rw [Nat.add_comm 1 j] at h1 k; exact .inl (.inl (.inr ⟨h1, k⟩))
    · exact k.elim
    · obtain rfl : j = 0 := by omega
      exact .inl (.inr ⟨by omega, rfl, k⟩)
    · obtain rfl : j = 7 := by omega
      exact .inr ⟨h3, rfl, k⟩
    · exact k.elim
  · rintro ⟨_, hW, h⟩
    refine ⟨⟨hj, hW⟩, ?_⟩
    rcases h with (((k | ⟨h1, k⟩) | ⟨h1, k⟩) | ⟨h1, h2, k⟩) | ⟨h1, h2, k⟩
    · exact .inl (.inl (.inl (.inl ⟨hj, k⟩)))
    · exact .inl (.inl (.inl (.inr ⟨⟨by omega, h1, by omega, k⟩, hj⟩)))
    · rw [Nat.add_comm j 1] at h1 k; exact .inl (.inl (.inr ⟨h1, k⟩))
    · subst h2
      exact .inl (.inr (.inr ⟨by omega, by omega, k⟩))
    · subst h2
      exact .inr ⟨by omega, by omega, .inl ⟨h1, by omega, k⟩, by omega⟩

end Cert.KernelIdeal.Hand
end
-- ==== Proof.KI.Packing.lean ====
/- Packing a plane of ones and zeros into words of eight pixels, and unpacking words into ones and zeros. -/
module

public import proofs.«01_k».proof.Proof.KI.Words

@[expose] public section
set_option maxRecDepth 16384
noncomputable section
namespace Cert.KernelIdeal.Hand

open Cert.KernelIdeal Cert.KernelIdeal.Gen
open Idealize.ShloMosaic Idealize.ShloMosaic.Tactic

/-- A pixel's word in its row, as the kernel computes it, -/
def wordOf (k : BitVec 32) : BitVec 32 :=
  Scalar.select
    (IntOp.andi
      (IntOp.cmpi CmpIPredicate.ne
        (IntOp.subi (BitVec.setWidth 32 (IntOp.cmpi CmpIPredicate.sgt k 0#32))
          (BitVec.setWidth 32 (IntOp.cmpi CmpIPredicate.slt k 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector k 8#32) 0#32))
    (IntOp.subi (IntOp.divsi ArithUnit.vector k 8#32) 1#32)
    (IntOp.divsi ArithUnit.vector k 8#32)

/-- and its bit in the word. -/
def bitOf (k : BitVec 32) : BitVec 32 :=
  Scalar.select
    (IntOp.andi
      (IntOp.xori
        (IntOp.cmpi CmpIPredicate.slt
          (IntOp.remsi ArithUnit.vector k
            (Scalar.select (Scalar.cmpi CmpIPredicate.eq 8#32 0#32) 1#32 8#32))
          0#32)
        (Scalar.cmpi CmpIPredicate.slt (Scalar.select (Scalar.cmpi CmpIPredicate.eq 8#32 0#32) 1#32 8#32) 0#32))
      (IntOp.cmpi CmpIPredicate.ne
        (IntOp.remsi ArithUnit.vector k
          (Scalar.select (Scalar.cmpi CmpIPredicate.eq 8#32 0#32) 1#32 8#32))
        0#32))
    (IntOp.addi
      (IntOp.remsi ArithUnit.vector k
        (Scalar.select (Scalar.cmpi CmpIPredicate.eq 8#32 0#32) 1#32 8#32))
      (Scalar.select (Scalar.cmpi CmpIPredicate.eq 8#32 0#32) 1#32 8#32))
    (IntOp.remsi ArithUnit.vector k
      (Scalar.select (Scalar.cmpi CmpIPredicate.eq 8#32 0#32) 1#32 8#32))

theorem wordOf_eq : ∀ k : Fin 512, wordOf (BitVec.ofNat 32 k) = BitVec.ofNat 32 (k / 8) := by
  decide +kernel

theorem bitOf_eq : ∀ k : Fin 512, bitOf (BitVec.ofNat 32 k) = BitVec.ofNat 32 (k % 8) := by
  decide +kernel

theorem shl_one : ∀ j : Fin 8, IntOp.shli .vector 1#32 (BitVec.ofNat 32 j) = BitVec.ofNat 32 (2 ^ (j : ℕ)) := by
  decide +kernel

theorem ofNat_eq_iff {a b : ℕ} (ha : a < 2 ^ 32) (hb : b < 2 ^ 32) : (BitVec.ofNat 32 a = BitVec.ofNat 32 b) ↔ a = b := by
  constructor
  · intro h
    have := congrArg BitVec.toNat h
    rw [BitVec.toNat_ofNat, BitVec.toNat_ofNat, Nat.mod_eq_of_lt ha, Nat.mod_eq_of_lt hb] at this
    exact this
  · intro h; rw [h]

theorem cmp_eq {a b : ℕ} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have n : ¬ BitVec.ofNat 32 a = BitVec.ofNat 32 b := fun e => h ((ofNat_eq_iff ha hb).1 e)
    rw [if_neg h]
    simp only [beq_eq_false_iff_ne.2 n]; rfl

/-- The entry of the packing matrix. -/
theorem weight (k : Fin 512) (c : Fin 64) :
    k0_pay20 (F := Ideal) (k0_pay17 rowIota) (k0_pay18 rowIota) k0_pay19 (ix2 k c) =
      (((if (k : ℕ) / 8 = c then 2 ^ ((k : ℕ) % 8) else 0 : ℕ) : ℝ) : EReal) := by
  have e17 : k0_pay17 rowIota (ix2 k c) = if (k : ℕ) / 8 = c then 1#1 else 0#1 := by
    have : k0_pay17 rowIota (ix2 k c) = IntOp.cmpi .eq (wordOf (BitVec.ofNat 32 k)) (BitVec.ofNat 32 c) := by
      pointwise [k0_pay17, rowIota]
      rfl
    rw [this, wordOf_eq, cmp_eq (by omega) (by omega)]
  have e18 : k0_pay18 rowIota (ix2 k c) = BitVec.ofNat 32 (2 ^ ((k : ℕ) % 8)) := by
    have : k0_pay18 rowIota (ix2 k c) = IntOp.shli .vector 1#32 (bitOf (BitVec.ofNat 32 k)) := by
      pointwise [k0_pay18, rowIota]
      rfl
    rw [this, bitOf_eq]
    exact shl_one ⟨k % 8, by omega⟩
  pointwise [k0_pay20]
  rw [e17, e18]
  have small : ∀ j : Fin 8, (BitVec.ofNat 32 (2 ^ (j : ℕ))).toInt = ((2 ^ (j : ℕ) : ℕ) : ℤ) := by decide
  by_cases h : (k : ℕ) / 8 = c
  · rw [if_pos h, if_pos h]
    show ((((BitVec.ofNat 32 (2 ^ ((k : ℕ) % 8))).toInt : ℤ) : ℝ) : EReal) = _
    have := small ⟨(k : ℕ) % 8, by omega⟩
    rw [this]; norm_cast
  · rw [if_neg h, if_neg h]
    show ((((k0_pay19 (ix2 k c)).toInt : ℤ) : ℝ) : EReal) = _
    have : k0_pay19 (ix2 k c) = 0#32 := rfl
    rw [this]; simp

theorem cast_sum {ι : Type*} [Fintype ι] (f : ι → ℕ) : ∑ i, (((f i : ℕ) : ℝ) : EReal) = (((∑ i, f i : ℕ) : ℝ) : EReal) := by
  simp only [EReal.coe_natCast]
  exact (Nat.cast_sum _ _).symm

/-- The sum over a row of what falls in one word. -/
theorem word_sum (f : ℕ → ℕ) (c : Fin 64) :
    ∑ k : Fin 512, (if (k : ℕ) / 8 = c then f k else 0) = ∑ j : Fin 8, f (8 * c + j) := by
  rw [← (finProdFinEquiv (m := 64) (n := 8)).sum_comp, Fintype.sum_prod_type, Finset.sum_eq_single c]
  · refine Finset.sum_congr rfl fun j _ => ?_
    have e : ((finProdFinEquiv (c, j) : Fin (64 * 8)) : ℕ) = j + 8 * c := rfl
    rw [if_pos (by rw [e]; omega), e, Nat.add_comm]
  · intro b _ hb
    refine Finset.sum_eq_zero fun j _ => ?_
    have e : ((finProdFinEquiv (b, j) : Fin (64 * 8)) : ℕ) = j + 8 * b := rfl
    rw [if_neg]
    rw [e]
    intro h
    exact hb (Fin.ext (by omega))
  · intro h; exact absurd (Finset.mem_univ c) h

theorem byte_bits : ∀ b0 b1 b2 b3 b4 b5 b6 b7 : Bool, ∀ i : Fin 8,
    (BitVec.ofNat 32 (cond b0 1 0 + cond b1 2 0 + cond b2 4 0 + cond b3 8 0 + cond b4 16 0 + cond b5 32 0 +
      cond b6 64 0 + cond b7 128 0)).getLsbD i = ![b0, b1, b2, b3, b4, b5, b6, b7] i := by
  decide +kernel

theorem byte_small : ∀ b0 b1 b2 b3 b4 b5 b6 b7 : Bool,
    cond b0 1 0 + cond b1 2 0 + cond b2 4 0 + cond b3 8 0 + cond b4 16 0 + cond b5 32 0 +
      cond b6 64 0 + cond b7 128 0 < 256 := by
  decide +kernel

/-- The bits of a sum of powers of two. -/
theorem sum_bits (b : Fin 8 → Bool) (j : ℕ) :
    (BitVec.ofNat 32 (∑ i : Fin 8, cond (b i) (2 ^ (i : ℕ)) 0)).getLsbD j = true ↔ ∃ h : j < 8, b ⟨j, h⟩ = true := by
  have e : ∑ i : Fin 8, cond (b i) (2 ^ (i : ℕ)) 0 = cond (b 0) 1 0 + cond (b 1) 2 0 + cond (b 2) 4 0 + cond (b 3) 8 0 +
      cond (b 4) 16 0 + cond (b 5) 32 0 + cond (b 6) 64 0 + cond (b 7) 128 0 := by
    rw [Fin.sum_univ_eight]; rfl
  rw [e]
  by_cases hj : j < 8
  · have k := byte_bits (b 0) (b 1) (b 2) (b 3) (b 4) (b 5) (b 6) (b 7) ⟨j, hj⟩
    rw [show ((⟨j, hj⟩ : Fin 8) : ℕ) = j from rfl] at k
    rw [k]
    have v : ![b 0, b 1, b 2, b 3, b 4, b 5, b 6, b 7] = b := by
      funext i; fin_cases i <;> rfl
    rw [v]
    exact ⟨fun h => ⟨hj, h⟩, fun ⟨_, h⟩ => h⟩
  · have s := byte_small (b 0) (b 1) (b 2) (b 3) (b 4) (b 5) (b 6) (b 7)
    constructor
    · intro h
      rw [BitVec.getLsbD_ofNat] at h
      simp only [Bool.and_eq_true] at h
      rw [Nat.testBit_lt_two_pow (lt_of_lt_of_le s (show 2 ^ 8 ≤ 2 ^ j from Nat.pow_le_pow_right (by omega) (by omega)))] at h
      exact absurd h.2 (by simp)
    · rintro ⟨h, _⟩; exact absurd h hj

theorem sum_small (b : Fin 8 → Bool) : ∑ i : Fin 8, cond (b i) (2 ^ (i : ℕ)) 0 < 256 := by
  rw [Fin.sum_univ_eight]
  exact byte_small (b 0) (b 1) (b 2) (b 3) (b 4) (b 5) (b 6) (b 7)

/-- A small whole number becomes its word. -/
theorem fptoui_nat (n : ℕ) (h : n < 256) : FloatOps.fptoui (F := Ideal) (φ := .f32) 32 (((n : ℝ)) : EReal) = BitVec.ofNat 32 n := by
  show BitVec.ofInt 32 (Ideal.toIntClamped 0 (2 ^ 32 - 1) ((n : ℝ) : EReal)) = _
  rw [Ideal.toIntClamped_coe, if_pos (Nat.cast_nonneg n), Int.floor_natCast, min_eq_right (by norm_num; omega),
    max_eq_right (by omega), BitVec.ofInt_natCast]

theorem fptosi_nat (n : ℕ) (h : n < 256) : FloatOps.fptosi (F := Ideal) (φ := .f32) 32 (((n : ℝ)) : EReal) = BitVec.ofNat 32 n := by
  show BitVec.ofInt 32 (Ideal.toIntClamped _ _ ((n : ℝ) : EReal)) = _
  rw [Ideal.toIntClamped_coe, if_pos (Nat.cast_nonneg n), Int.floor_natCast, min_eq_right (by norm_num; omega),
    max_eq_right (by norm_num), BitVec.ofInt_natCast]

/-- A plane of ones and zeros: one at the pixels of `K`. -/
def Marks (x : FVec Ideal S512x512 .f32) (K : Canny.Pixels) : Prop :=
  ∀ r c : Fin 512, (K r c → x (ix2 r c) = ((1 : ℝ) : EReal)) ∧ (¬ K r c → x (ix2 r c) = ((0 : ℝ) : EReal))

open Classical in
/-- PACKING marks gives words that hold their pixels. -/
theorem pack_enc {x : FVec Ideal S512x512 .f32} {K : Canny.Pixels} (h : Marks x K) :
    Enc (k0_pay21 (F := Ideal) x (k0_pay17 rowIota) (k0_pay18 rowIota) k0_pay19) K := by
  intro r c j
  pointwise [k0_pay21]
  have step : ∀ k : Fin 512, x (ix2 r k) * k0_pay20 (F := Ideal) (k0_pay17 rowIota) (k0_pay18 rowIota) k0_pay19 (ix2 k c) =
      (((if (k : ℕ) / 8 = c then (fun q : ℕ => cond (decide (K r q)) (2 ^ (q % 8)) 0) k else 0 : ℕ) : ℝ) : EReal) := by
    intro k
    rw [weight]
    by_cases hk : K r k
    · rw [(h r k).1 hk]
      simp [hk]
    · rw [(h r k).2 hk]
      simp [hk]
  rw [Finset.sum_congr rfl fun k _ => step k, cast_sum, word_sum (fun q : ℕ => cond (decide (K r q)) (2 ^ (q % 8)) 0) c]
  have e : ∑ i : Fin 8, (fun q : ℕ => cond (decide (K r q)) (2 ^ (q % 8)) 0) (8 * c + i) =
      ∑ i : Fin 8, cond (decide (K r (8 * c + i))) (2 ^ (i : ℕ)) 0 := by
    refine Finset.sum_congr rfl fun i _ => ?_
    show cond _ (2 ^ ((8 * (c : ℕ) + i) % 8)) 0 = _
    rw [show (8 * (c : ℕ) + i) % 8 = i by omega]
  rw [e, fptoui_nat _ (sum_small fun i => decide (K r (8 * c + i))), sum_bits fun i => decide (K r (8 * c + i))]
  simp

/-- The entry of the unpacking matrix. -/
theorem unweight (k : Fin 512) (c : Fin 64) :
    k0_pay23 (F := Ideal) (ix2 c k) = (((if (k : ℕ) / 8 = c then 1 else 0 : ℕ) : ℝ) : EReal) := by
  have : k0_pay23 (F := Ideal) (ix2 c k) = FloatOps.sitofp FTy.f32 (BitVec.setWidth 32
      (IntOp.cmpi .eq (wordOf (BitVec.ofNat 32 k)) (BitVec.ofNat 32 c))) := by
    pointwise [k0_pay23]
    rfl
  rw [this, wordOf_eq, cmp_eq (by omega) (by omega)]
  by_cases h : (k : ℕ) / 8 = c
  · rw [if_pos h, if_pos h]
    show ((((BitVec.setWidth 32 1#1).toInt : ℤ) : ℝ) : EReal) = _
    rw [show (BitVec.setWidth 32 1#1).toInt = 1 by decide]; simp
  · rw [if_neg h, if_neg h]
    show ((((BitVec.setWidth 32 0#1).toInt : ℤ) : ℝ) : EReal) = _
    rw [show (BitVec.setWidth 32 0#1).toInt = 0 by decide]; simp

theorem enc_small {s : Words} {K : Canny.Pixels} (h : Enc s K) (r : Fin 512) (c : Fin 64) : (s (ix2 r c)).toNat < 256 := by
  refine Nat.lt_pow_two_of_testBit (n := 8) _ fun i hi => ?_
  rw [BitVec.testBit_toNat]
  by_contra q
  rw [Bool.not_eq_false] at q
  have := ((h r c i).1 q).1
  omega

/-- A word shifted right by a bit's place, and its last bit kept. -/
theorem pick (w : BitVec 32) (n : ℕ) (hn : n < 32) :
    IntOp.andi (IntOp.shrsi .vector w (BitVec.ofNat 32 n)) 1#32 = if w.getLsbD n = true then 1#32 else 0#32 := by
  have e : (BitVec.ofNat 32 n).toNat = n := by rw [BitVec.toNat_ofNat]; exact Nat.mod_eq_of_lt (by omega)
  unfold IntOp.andi IntOp.shrsi
  rw [if_pos (by rw [e]; exact hn), BitVec.sshiftRight_eq', e]
  apply BitVec.eq_of_getLsbD_eq
  intro i hi
  rw [BitVec.getLsbD_and, BitVec.getLsbD_one, BitVec.getLsbD_sshiftRight]
  by_cases h0 : i = 0
  · subst h0
    cases hb : w.getLsbD n <;> simp [hb, hn]
  · cases hb : w.getLsbD n <;> simp [h0, BitVec.getLsbD_one]

/-- UNPACKING words that hold pixels gives one at those pixels and zero elsewhere. -/
theorem unpack {s : Words} {K : Canny.Pixels} (h : Enc s K) (r k : Fin 512) :
    (K r k → k0_pay1 (F := Ideal) k0_pay23 s (ix3 0 r k) = ((1 : ℝ) : EReal)) ∧
      (¬ K r k → k0_pay1 (F := Ideal) k0_pay23 s (ix3 0 r k) = ((0 : ℝ) : EReal)) := by
  have e : k0_pay1 (F := Ideal) k0_pay23 s (ix3 0 r k) = FloatOps.sitofp FTy.f32 (IntOp.andi (IntOp.shrsi ArithUnit.vector
      (FloatOps.fptosi (F := Ideal) (φ := .f32) 32 (∑ x : Fin 64, FloatOps.uitofp (F := Ideal) FTy.f32 (s (ix2 r x)) * k0_pay23 (F := Ideal) (ix2 x k)))
      (bitOf (BitVec.ofNat 32 k))) 1#32) := by
    pointwise [k0_pay1]
    rfl
  have hc : (k : ℕ) / 8 < 64 := by omega
  have sum : ∑ x : Fin 64, FloatOps.uitofp (F := Ideal) FTy.f32 (s (ix2 r x)) * k0_pay23 (F := Ideal) (ix2 x k) =
      (((s (ix2 r ⟨k / 8, hc⟩)).toNat : ℝ) : EReal) := by
    rw [Finset.sum_eq_single (⟨k / 8, hc⟩ : Fin 64)]
    · rw [unweight, if_pos rfl]
      show (((s (ix2 r ⟨k / 8, hc⟩)).toNat : ℝ) : EReal) * _ = _
      simp
    · intro b _ hb
      rw [unweight, if_neg (fun q => hb (Fin.ext q.symm))]
      simp
    · intro q; exact absurd (Finset.mem_univ _) q
  rw [e, sum, fptosi_nat _ (enc_small h r _), bitOf_eq, BitVec.ofNat_toNat, BitVec.setWidth_eq, pick _ _ (by omega)]
  have b := h r ⟨k / 8, hc⟩ (k % 8)
  rw [show 8 * ((⟨k / 8, hc⟩ : Fin 64) : ℕ) + (k : ℕ) % 8 = k from Nat.div_add_mod _ _] at b
  constructor
  · intro q
    rw [if_pos (b.2 ⟨by omega, q⟩)]
    show ((((1#32).toInt : ℤ) : ℝ) : EReal) = _
    rw [show (1#32).toInt = 1 by decide]; simp
  · intro q
    rw [if_neg (fun z => q (b.1 z).2)]
    show ((((0#32).toInt : ℤ) : ℝ) : EReal) = _
    rw [show (0#32).toInt = 0 by decide]; simp

/-! ### The settled words -/

/-- Words hold one set of pixels only. -/
theorem Enc.same {s : Words} {K L : Canny.Pixels} (h : Enc s K) (h' : Enc s L) : Canny.Same K L := by
  intro r hr c hc
  have a := h ⟨r, hr⟩ ⟨c / 8, by omega⟩ (c % 8)
  have b := h' ⟨r, hr⟩ ⟨c / 8, by omega⟩ (c % 8)
  rw [show 8 * ((⟨c / 8, by omega⟩ : Fin 64) : ℕ) + c % 8 = c from Nat.div_add_mod _ _] at a b
  constructor
  · intro k; exact (b.1 (a.2 ⟨by omega, k⟩)).2
  · intro k; exact (a.1 (b.2 ⟨by omega, k⟩)).2

theorem Enc.congr {s : Words} {K L : Canny.Pixels} (h : Enc s K) (e : Canny.Same K L) : Enc s L := by
  intro r c j
  rw [h r c j]
  refine and_congr_right fun hj => e r r.isLt _ (by omega)

/-- SETTLED WORDS hold what the strong pixels reach through weak ones. -/
theorem settled_enc {F : FTy → Type} [FloatOps F] (h : Halts F) {w e : Words} {S W : Canny.Pixels} (he : Enc e S) (hw : Enc w W)
    (hSW : ∀ r < 512, ∀ c < 512, S r c → W r c) : Enc (settled h w e) (Canny.Reach S W) := by
  have it : ∀ n, Enc ((trip F w)^[n] e) ((Canny.Spread W)^[n] S) := by
    intro n
    induction n with
    | zero => exact he
    | succ n ih => rw [Function.iterate_succ_apply', Function.iterate_succ_apply']; exact trip_enc ih hw
  have last := it (changes h w e)
  refine Enc.congr last (Canny.settled_reach hSW (fun n => (Canny.Spread W)^[n] S) (fun _ _ _ _ => Iff.rfl)
    (fun n => ?_) (changes h w e) ?_)
  · intro r _ c _
    show ((Canny.Spread W)^[n + 1] S) r c ↔ _
    rw [Function.iterate_succ_apply']
  · have t := trip_enc (F := F) last hw
    rw [show trip F w ((trip F w)^[changes h w e] e) = (trip F w)^[changes h w e] e from trip_settled h w e] at t
    exact t.same last

/-- THE BLOCK STORED: one where the strong pixels reach through weak ones, zero elsewhere. -/
theorem outBlk_at (h : Halts Ideal) {x : Vec Ideal S1x512x512 .f32} {S W : Canny.Pixels} (hS : Marks (strongMask x) S)
    (hW : Marks (weakMask x) W) (hSW : ∀ r < 512, ∀ c < 512, S r c → W r c) (r k : Fin 512) :
    (Canny.Reach S W r k → outBlk h x (ix3 0 r k) = ((1 : ℝ) : EReal)) ∧
      (¬ Canny.Reach S W r k → outBlk h x (ix3 0 r k) = ((0 : ℝ) : EReal)) :=
  unpack (settled_enc h (pack_enc hS) (show Enc (packW x) W from pack_enc hW) hSW) r k

end Cert.KernelIdeal.Hand
end
-- ==== Proof.Math.Gap.lean ====
/- Angles of lattice points keep away from an eighth of π. -/
module

public import Mathlib.Analysis.SpecialFunctions.Trigonometric.Arctan
public import Mathlib.Analysis.Complex.Exponential

@[expose] public section

noncomputable section

namespace Canny

open Real

/-- The tangent of an eighth of π. -/
theorem tan_eighth : tan (π / 8) = √2 - 1 := by
  have hc : 0 < cos (π / 8) := cos_pos_of_mem_Ioo ⟨by linarith [pi_pos], by linarith [pi_pos]⟩
  have h1 : sin (π / 8) * cos (π / 8) * 2 = √2 / 2 := by
    have := sin_two_mul (π / 8)
    rw [show 2 * (π / 8) = π / 4 by ring, sin_pi_div_four] at this
    linarith
  have h2 : 2 * cos (π / 8) ^ 2 - 1 = √2 / 2 := by
    have := cos_two_mul (π / 8)
    rw [show 2 * (π / 8) = π / 4 by ring, cos_pi_div_four] at this
    linarith
  have hs : √2 * √2 = 2 := mul_self_sqrt (by norm_num)
  rw [tan_eq_sin_div_cos, div_eq_iff hc.ne']
  have : sin (π / 8) * cos (π / 8) = (√2 - 1) * cos (π / 8) * cos (π / 8) := by nlinarith
  exact mul_right_cancel₀ hc.ne' this

theorem arctan_eighth : arctan (√2 - 1) = π / 8 := by
  rw [← tan_eighth]
  exact arctan_tan (by linarith [pi_pos]) (by linarith [pi_pos])

theorem sine_le {x : ℝ} (h0 : 0 ≤ x) : sin x ≤ x := by
  rcases le_total x 1 with h1 | h1
  · have h := (abs_le.1 (sin_bound (x := x) (by rwa [abs_of_nonneg h0]))).2
    rw [abs_of_nonneg h0] at h
    have h3 : 0 ≤ x ^ 3 := by positivity
    have h5 : x ^ 5 ≤ x ^ 3 := pow_le_pow_of_le_one h0 h1 (by norm_num)
    linarith
  · exact (sin_le_one x).trans h1

/-- Up to one the arctangent grows at least half as fast as its argument. -/
theorem arctan_grows {u v : ℝ} (hu : 0 ≤ u) (huv : u < v) (hv : v ≤ 1) :
    (v - u) / 2 ≤ arctan v - arctan u := by
  have hd : 0 ≤ arctan v - arctan u := sub_nonneg.2 (arctan_strictMono huv).le
  refine le_trans ?_ (sine_le hd)
  rw [sin_sub, sin_arctan, cos_arctan, sin_arctan, cos_arctan]
  have h1 : 0 < √(1 + v ^ 2) := sqrt_pos.2 (by positivity)
  have h2 : 0 < √(1 + u ^ 2) := sqrt_pos.2 (by positivity)
  have h3 : √(1 + v ^ 2) ^ 2 = 1 + v ^ 2 := sq_sqrt (by positivity)
  have h4 : √(1 + u ^ 2) ^ 2 = 1 + u ^ 2 := sq_sqrt (by positivity)
  have e : v / √(1 + v ^ 2) * (1 / √(1 + u ^ 2)) - 1 / √(1 + v ^ 2) * (u / √(1 + u ^ 2))
      = (v - u) / (√(1 + v ^ 2) * √(1 + u ^ 2)) := by field_simp
  rw [e]
  refine div_le_div_of_nonneg_left (by linarith) (by positivity) ?_
  nlinarith [sq_nonneg (√(1 + v ^ 2) - √(1 + u ^ 2))]

/-- The sine by its first five terms. -/
theorem sin_near {x : ℝ} (h0 : 0 ≤ x) (h1 : x ≤ 1) :
    |sin x - (x - x ^ 3 / 6 + x ^ 5 / 120 - x ^ 7 / 5040 + x ^ 9 / 362880)| ≤ x ^ 10 / 3000000 := by
  have hn : ‖(x : ℂ) * Complex.I‖ = x := by simp [abs_of_nonneg h0]
  have h := Complex.exp_bound (x := (x : ℂ) * Complex.I) (by rw [hn]; exact h1) (n := 10) (by norm_num)
  rw [hn] at h
  have hs : ∑ m ∈ Finset.range 10, ((x : ℂ) * Complex.I) ^ m / (m.factorial : ℂ)
      = ((1 - x ^ 2 / 2 + x ^ 4 / 24 - x ^ 6 / 720 + x ^ 8 / 40320 : ℝ) : ℂ)
        + ((x - x ^ 3 / 6 + x ^ 5 / 120 - x ^ 7 / 5040 + x ^ 9 / 362880 : ℝ) : ℂ) * Complex.I := by
    have i2 : Complex.I ^ 2 = -1 := Complex.I_sq
    have i3 : Complex.I ^ 3 = -Complex.I := by rw [pow_succ, i2]; ring
    have i4 : Complex.I ^ 4 = 1 := by rw [pow_succ, i3]; linear_combination -i2
    have i5 : Complex.I ^ 5 = Complex.I := by rw [pow_succ, i4]; ring
    have i6 : Complex.I ^ 6 = -1 := by rw [pow_succ, i5]; linear_combination i2
    have i7 : Complex.I ^ 7 = -Complex.I := by rw [pow_succ, i6]; ring
    have i8 : Complex.I ^ 8 = 1 := by rw [pow_succ, i7]; linear_combination -i2
    have i9 : Complex.I ^ 9 = Complex.I := by rw [pow_succ, i8]; ring
    simp only [Finset.sum_range_succ, Finset.sum_range_zero, mul_pow, i2, i3, i4, i5, i6, i7, i8, i9,
      Nat.factorial]
    push_cast
    ring
  rw [hs] at h
  have hi := (Complex.abs_im_le_norm _).trans h
  rw [Complex.sub_im, Complex.exp_ofReal_mul_I_im, Complex.add_im, Complex.ofReal_im, Complex.mul_im,
    Complex.ofReal_re, Complex.ofReal_im, Complex.I_im, Complex.I_re] at hi
  simp only [mul_one, mul_zero, add_zero, zero_add] at hi
  refine hi.trans ?_
  have hx : 0 ≤ x ^ 10 := by positivity
  have : ((Nat.succ 10 : ℕ) : ℝ) * ((Nat.factorial 10 : ℕ) * (10 : ℕ) : ℝ)⁻¹ ≤ 1 / 3000000 := by
    simp only [Nat.factorial]
    norm_num
  calc x ^ 10 * _ ≤ x ^ 10 * (1 / 3000000) := mul_le_mul_of_nonneg_left this hx
    _ = _ := by ring

/-- The half circle, to eight digits. -/
theorem pi_lower : 3.1415926 < π := by
  by_contra hc
  push Not at hc
  have h := sin_near (x := 3.1415926 / 6) (by norm_num) (by norm_num)
  have hm := sin_le_sin_of_le_of_le_pi_div_two (x := π / 6) (y := 3.1415926 / 6)
    (by linarith [pi_pos]) (by linarith [two_le_pi]) (by linarith)
  rw [sin_pi_div_six] at hm
  have := (abs_le.1 h).2
  norm_num at this hm
  linarith

theorem pi_upper : π < 3.14159268 := by
  by_contra hc
  push Not at hc
  have h := sin_near (x := 3.14159268 / 6) (by norm_num) (by norm_num)
  have hm := sin_le_sin_of_le_of_le_pi_div_two (x := 3.14159268 / 6) (y := π / 6)
    (by norm_num; linarith [pi_pos]) (by linarith [pi_pos]) (by linarith)
  rw [sin_pi_div_six] at hm
  have := (abs_le.1 h).1
  norm_num at this hm
  linarith

theorem sqrt_two_bounds : 1.4142 < √2 ∧ √2 < 1.4143 := by
  constructor
  · exact lt_sqrt_of_sq_lt (by norm_num)
  · rw [sqrt_lt' (by norm_num)]
    norm_num

/-- How far a lattice point's angle keeps from an eighth of π. -/
abbrev gap : ℝ := 13 / 10 ^ 8

/-- Twice a positive square is no square. -/
theorem no_square_nat : ∀ n x s : ℕ, x ≤ n → 0 < x → s * s = 2 * (x * x) → False := by
  intro n
  induction n with
  | zero => intro x s h h0; omega
  | succ n ih =>
    intro x s hx h0 h
    obtain ⟨t, rfl | rfl⟩ : ∃ t, s = 2 * t ∨ s = 2 * t + 1 := ⟨s / 2, by omega⟩
    · have e : x * x = 2 * (t * t) := by nlinarith
      have ht : t < x := by
        by_contra hc
        push Not at hc
        nlinarith
      refine ih t x (by omega) ?_ e
      rcases Nat.eq_zero_or_pos t with rfl | h'
      · nlinarith
      · exact h'
    · have e : (2 * t + 1) * (2 * t + 1) = 2 * (2 * (t * t) + 2 * t) + 1 := by ring
      omega

theorem no_square {X S : ℤ} (hX : 0 < X) (h : S ^ 2 = 2 * X ^ 2) : False := by
  refine no_square_nat X.natAbs X.natAbs S.natAbs le_rfl (by omega) ?_
  rw [Int.natAbs_mul_natAbs_eq (a := S) (b := S) (c := (2 * (X.natAbs * X.natAbs) : ℕ))]
  push_cast
  rw [abs_mul_abs_self]
  linarith [sq S, sq X]

/-- A point below the ray at an eighth of π is below it by more than the gap. -/
theorem below {X Y : ℤ} (hX : 0 < X) (hX' : X ≤ 1020) (hY : 0 ≤ Y) (h : (X + Y) ^ 2 < 2 * X ^ 2) :
    arctan ((Y : ℝ) / X) + gap < π / 8 := by
  obtain ⟨s1, s2⟩ := sqrt_two_bounds
  have hs : √2 * √2 = 2 := mul_self_sqrt (by norm_num)
  have hx : (0 : ℝ) < X := by exact_mod_cast hX
  have hx' : (X : ℝ) ≤ 1020 := by exact_mod_cast hX'
  have hy : (0 : ℝ) ≤ Y := by exact_mod_cast hY
  have h' : ((X : ℝ) + Y) ^ 2 + 1 ≤ 2 * X ^ 2 := by exact_mod_cast h
  set u : ℝ := (Y : ℝ) / X with hu
  have hyu : (Y : ℝ) = u * X := by rw [hu]; field_simp
  have hu0 : 0 ≤ u := div_nonneg hy hx.le
  have hq : 1 ≤ (2 - (1 + u) ^ 2) * X ^ 2 := by rw [hyu] at h'; nlinarith
  have hx2 : (X : ℝ) ^ 2 ≤ 1040400 := by nlinarith
  have hp : 0 < 2 - (1 + u) ^ 2 := by
    by_contra hc
    nlinarith [sq_nonneg (X : ℝ)]
  have hq' : 1 / 1040400 ≤ 2 - (1 + u) ^ 2 := by
    rw [div_le_iff₀ (by norm_num)]
    nlinarith
  have hlt : u < √2 - 1 := by nlinarith
  have hd : 1 / 1040400 ≤ (√2 - 1 - u) * 2.83 := by nlinarith
  have := arctan_grows hu0 hlt (by linarith)
  rw [arctan_eighth] at this
  have h5 : gap < (√2 - 1 - u) / 2 := by
    rw [lt_div_iff₀ (by norm_num)]
    unfold gap
    norm_num at hd ⊢
    linarith
  linarith

/-- A point above it is above it by more than the gap. -/
theorem above {X Y : ℤ} (hX : 0 < X) (hX' : X ≤ 1020) (hY : 0 ≤ Y) (h : 2 * X ^ 2 < (X + Y) ^ 2) :
    π / 8 + gap < arctan ((Y : ℝ) / X) := by
  obtain ⟨s1, s2⟩ := sqrt_two_bounds
  have hs : √2 * √2 = 2 := mul_self_sqrt (by norm_num)
  have hx : (0 : ℝ) < X := by exact_mod_cast hX
  have hx' : (X : ℝ) ≤ 1020 := by exact_mod_cast hX'
  have hy : (0 : ℝ) ≤ Y := by exact_mod_cast hY
  have h' : 2 * (X : ℝ) ^ 2 + 1 ≤ (X + Y) ^ 2 := by exact_mod_cast h
  set u : ℝ := (Y : ℝ) / X with hu
  rcases lt_or_ge u 1 with h1 | h1
  · have hyu : (Y : ℝ) = u * X := by rw [hu]; field_simp
    have hu0 : 0 ≤ u := div_nonneg hy hx.le
    have hq : 1 ≤ ((1 + u) ^ 2 - 2) * X ^ 2 := by rw [hyu] at h'; nlinarith
    have hx2 : (X : ℝ) ^ 2 ≤ 1040400 := by nlinarith
    have hp : 0 < (1 + u) ^ 2 - 2 := by
      by_contra hc
      nlinarith [sq_nonneg (X : ℝ)]
    have hq' : 1 / 1040400 ≤ (1 + u) ^ 2 - 2 := by
      rw [div_le_iff₀ (by norm_num)]
      nlinarith
    have hlt : √2 - 1 < u := by nlinarith
    have hd : 1 / 1040400 ≤ (u - (√2 - 1)) * 3.4143 := by nlinarith
    have := arctan_grows (by linarith) hlt h1.le
    rw [arctan_eighth] at this
    have h5 : gap < (u - (√2 - 1)) / 2 := by
      rw [lt_div_iff₀ (by norm_num)]
      unfold gap
      norm_num at hd ⊢
      linarith
    linarith
  · have : arctan 1 ≤ arctan u := arctan_strictMono.monotone h1
    rw [arctan_one] at this
    have := pi_lower
    unfold gap
    linarith

end Canny

end
-- ==== Proof.Math.Sector.lean ====
/- The gradient's sector, read off its angle in degrees or off products with the tangent of an eighth of π: for whole
   gradients of at most 1020 both say the same inequalities between squares. -/
module

public import proofs.«01_k».proof.Proof.Math.Gap
public import Idealize.ShloMosaic.PureOps.Ideal

@[expose] public section

noncomputable section

namespace Canny

open Real
open Idealize.ShloMosaic (Ideal.truncInt)

/-- Degrees in a radian, as the reference rounds them. -/
abbrev degrees : ℝ := 15019745 / 262144

/-- The tangent of an eighth of π, as the kernel rounds it. -/
abbrev tangent : ℝ := 13898701 / 33554432

/-- The angle of a point by quadrants. -/
def angle (y x : ℝ) : ℝ :=
  if 0 < x then arctan (y / x)
  else if x < 0 then (if 0 ≤ y then arctan (y / x) + π else arctan (y / x) - π)
  else if 0 < y then π / 2 else if y < 0 then -(π / 2) else 0

/-- The remainder of a division by 180, of the dividend's sign. -/
def rest (v : ℝ) : ℝ := v - 180 * (Ideal.truncInt (v / 180) : ℝ)

/-- The remainder brought to the divisor's sign. -/
def wrap (v : ℝ) : ℝ := if rest v < 0 then rest v + 180 else rest v

/-- The angle in degrees, from 0 to 180. -/
def turn (y x : ℝ) : ℝ := wrap (angle y x * degrees)

/-- The gradient is nearer the horizontal than an eighth of π. -/
def Flat (x y : ℤ) : Prop := (|x| + |y|) ^ 2 < 2 * |x| ^ 2
/-- It is farther from the vertical than an eighth of π. -/
def Slant (x y : ℤ) : Prop := 2 * |y| ^ 2 < (|x| + |y|) ^ 2

instance (x y : ℤ) : Decidable (Flat x y) := inferInstanceAs (Decidable (_ < _))
instance (x y : ℤ) : Decidable (Slant x y) := inferInstanceAs (Decidable (_ < _))

theorem rest_small {v : ℝ} (h1 : -180 < v) (h2 : v < 180) : rest v = v := by
  have : Ideal.truncInt (v / 180) = 0 := by
    unfold Ideal.truncInt
    split_ifs with h
    · rw [Int.floor_eq_zero_iff]
      exact ⟨h, by rw [div_lt_one (by norm_num)]; exact h2⟩
    · rw [Int.ceil_eq_zero_iff]
      push Not at h
      exact ⟨by rw [lt_div_iff₀ (by norm_num)]; linarith, h.le⟩
  rw [rest, this]
  simp

theorem rest_one {v : ℝ} (h1 : 180 ≤ v) (h2 : v < 360) : rest v = v - 180 := by
  have : Ideal.truncInt (v / 180) = 1 := by
    unfold Ideal.truncInt
    rw [if_pos (div_nonneg (by linarith) (by norm_num)), Int.floor_eq_iff]
    constructor
    · rw [le_div_iff₀ (by norm_num)]; push_cast; linarith
    · rw [div_lt_iff₀ (by norm_num)]; push_cast; linarith
  rw [rest, this]
  simp

theorem wrap_pos {v : ℝ} (h1 : 0 ≤ v) (h2 : v < 180) : wrap v = v := by
  rw [wrap, rest_small (by linarith) h2, if_neg (by linarith)]

theorem wrap_neg {v : ℝ} (h1 : -180 < v) (h2 : v < 0) : wrap v = v + 180 := by
  rw [wrap, rest_small h1 (by linarith), if_pos h2]

theorem wrap_past {v : ℝ} (h1 : 180 ≤ v) (h2 : v < 360) : wrap v = v - 180 := by
  rw [wrap, rest_one h1 h2, if_neg (by linarith)]

theorem half_lower : 180 - 4 / 10 ^ 6 < π * degrees := by have := pi_lower; norm_num [degrees]; linarith
theorem half_upper : π * degrees < 180 + 4 / 10 ^ 6 := by have := pi_upper; norm_num [degrees]; linarith

/-- The slope's angle in degrees, of whole sides. -/
def slope (X Y : ℤ) : ℝ := arctan ((Y : ℝ) / X) * degrees

theorem slope_nonneg {X Y : ℤ} (hX : 0 < X) (hY : 0 ≤ Y) : 0 ≤ slope X Y := by
  have hx : (0 : ℝ) < X := by exact_mod_cast hX
  have hy : (0 : ℝ) ≤ Y := by exact_mod_cast hY
  exact mul_nonneg (arctan_nonneg.2 (div_nonneg hy hx.le)) (by norm_num)

theorem slope_lt {X Y : ℤ} : slope X Y < 91 := by
  have h := arctan_lt_pi_div_two ((Y : ℝ) / X)
  have := half_upper
  unfold slope
  norm_num [degrees] at this ⊢
  linarith

theorem slope_pos {X Y : ℤ} (hX : 0 < X) (hX' : X ≤ 1020) (hY : 0 < Y) : 1 / 100 < slope X Y := by
  have hx : (0 : ℝ) < X := by exact_mod_cast hX
  have hx' : (X : ℝ) ≤ 1020 := by exact_mod_cast hX'
  have hy : (1 : ℝ) ≤ Y := by exact_mod_cast hY
  have h1 : arctan (1 / 1020) ≤ arctan ((Y : ℝ) / X) := by
    refine arctan_mono ?_
    rw [div_le_div_iff₀ (by norm_num) hx]
    nlinarith
  have h2 := arctan_grows (u := 0) (v := 1 / 1020) le_rfl (by norm_num) (by norm_num)
  rw [arctan_zero, sub_zero, sub_zero] at h2
  have h3 := h2.trans h1
  unfold slope
  norm_num [degrees] at h3 ⊢
  linarith

theorem slope_flat {X Y : ℤ} (hX : 0 < X) (hX' : X ≤ 1020) (hY : 0 ≤ Y) (h : (X + Y) ^ 2 < 2 * X ^ 2) :
    slope X Y + 5 / 10 ^ 6 < 22.5 := by
  have h1 := below hX hX' hY h
  have := half_upper
  unfold slope
  norm_num [degrees, gap] at h1 this ⊢
  linarith

theorem slope_steep {X Y : ℤ} (hX : 0 < X) (hX' : X ≤ 1020) (hY : 0 ≤ Y) (h : ¬ (X + Y) ^ 2 < 2 * X ^ 2) :
    22.5 + 5 / 10 ^ 6 < slope X Y := by
  have h' : 2 * X ^ 2 < (X + Y) ^ 2 := lt_of_le_of_ne (not_lt.1 h) fun e => no_square hX e.symm
  have h1 := above hX hX' hY h'
  have := half_lower
  unfold slope
  norm_num [degrees, gap] at h1 this ⊢
  linarith

theorem slope_swap {X Y : ℤ} (hX : 0 < X) (hY : 0 < Y) : slope X Y = π / 2 * degrees - slope Y X := by
  have hx : (0 : ℝ) < X := by exact_mod_cast hX
  have hy : (0 : ℝ) < Y := by exact_mod_cast hY
  have h := arctan_inv_of_pos (div_pos hx hy)
  rw [inv_div] at h
  unfold slope
  rw [h]
  ring

theorem slope_slant {X Y : ℤ} (hX : 0 < X) (hY : 0 ≤ Y) (hY' : Y ≤ 1020) (h : 2 * Y ^ 2 < (X + Y) ^ 2) :
    slope X Y + 5 / 10 ^ 6 < 67.5 - 1 / 10 ^ 7 := by
  rcases hY.eq_or_lt with rfl | hY0
  · unfold slope
    norm_num
  · have h1 := above (X := Y) (Y := X) hY0 hY' hX.le (by rwa [add_comm Y X])
    have := half_upper
    rw [slope_swap hX hY0]
    unfold slope
    norm_num [degrees, gap] at h1 this ⊢
    linarith

theorem slope_upright {X Y : ℤ} (hX : 0 < X) (hY : 0 ≤ Y) (hY' : Y ≤ 1020) (h : ¬ 2 * Y ^ 2 < (X + Y) ^ 2) :
    67.5 + 5 / 10 ^ 6 < slope X Y := by
  have hY0 : 0 < Y := by
    rcases hY.eq_or_lt with rfl | hY0
    · exact absurd (by nlinarith) h
    · exact hY0
  have h' : (Y + X) ^ 2 < 2 * Y ^ 2 := by
    rw [add_comm Y X]
    exact lt_of_le_of_ne (not_lt.1 h) fun e => no_square hY0 e
  have h1 := below (X := Y) (Y := X) hY0 hY' hX.le h'
  have := half_lower
  rw [slope_swap hX hY0]
  unfold slope
  norm_num [degrees, gap] at h1 this ⊢
  linarith

/-- Of a gradient pointing into the first or third quadrant the angle is the slope's, nearly; -/
theorem turn_same {x y : ℤ} (hx : |x| ≤ 1020) (hxy : 0 < x * y) :
    |turn y x - (slope |x| |y|)| ≤ 4 / 10 ^ 6 := by
  rcases lt_trichotomy x 0 with h | h | h
  · have hy : y < 0 := by nlinarith
    have hX : (0 : ℤ) < |x| := abs_pos.2 h.ne
    have hY : (0 : ℤ) < |y| := abs_pos.2 hy.ne
    have h1 := slope_pos hX hx hY
    have h2 := slope_lt (X := |x|) (Y := |y|)
    have h3 := half_lower
    have h4 := half_upper
    have hxr : (x : ℝ) < 0 := by exact_mod_cast h
    have hyr : (y : ℝ) < 0 := by exact_mod_cast hy
    have e : angle y x * degrees = slope |x| |y| - π * degrees := by
      unfold angle slope
      rw [if_neg (by linarith), if_pos hxr, if_neg (by linarith), abs_of_neg h, abs_of_neg hy]
      push_cast
      rw [neg_div_neg_eq]
      ring
    rw [turn, e, wrap_neg (by norm_num at h1 h3 h4 ⊢; linarith) (by norm_num at h2 h3 h4 ⊢; linarith), abs_le]
    constructor <;> norm_num at h3 h4 ⊢ <;> linarith
  · subst h; simp at hxy
  · have hy : 0 < y := by nlinarith
    have hX : (0 : ℤ) < |x| := abs_pos.2 h.ne'
    have h2 := slope_lt (X := |x|) (Y := |y|)
    have h1 := slope_nonneg hX (abs_nonneg y)
    have hxr : (0 : ℝ) < x := by exact_mod_cast h
    have e : angle y x * degrees = slope |x| |y| := by
      unfold angle slope
      rw [if_pos hxr, abs_of_pos h, abs_of_pos hy]
    rw [turn, e, wrap_pos h1 (by linarith)]
    norm_num

/-- and into the second or fourth it is short of 180 by the slope's. -/
theorem turn_opposite {x y : ℤ} (hx : |x| ≤ 1020) (hxy : x * y < 0) :
    |turn y x - (180 - slope |x| |y|)| ≤ 4 / 10 ^ 6 := by
  rcases lt_trichotomy x 0 with h | h | h
  · have hy : 0 < y := by nlinarith
    have hX : (0 : ℤ) < |x| := abs_pos.2 h.ne
    have hY : (0 : ℤ) < |y| := abs_pos.2 hy.ne'
    have h1 := slope_pos hX hx hY
    have h2 := slope_lt (X := |x|) (Y := |y|)
    have h3 := half_lower
    have h4 := half_upper
    have hxr : (x : ℝ) < 0 := by exact_mod_cast h
    have hyr : (0 : ℝ) < y := by exact_mod_cast hy
    have e : angle y x * degrees = π * degrees - slope |x| |y| := by
      unfold angle slope
      rw [if_neg (by linarith), if_pos hxr, if_pos hyr.le, abs_of_neg h, abs_of_pos hy]
      push_cast
      rw [div_neg, arctan_neg]
      ring
    rw [turn, e, wrap_pos (by norm_num at h2 h3 h4 ⊢; linarith) (by norm_num at h1 h3 h4 ⊢; linarith), abs_le]
    constructor <;> norm_num at h3 h4 ⊢ <;> linarith
  · subst h; simp at hxy
  · have hy : y < 0 := by nlinarith
    have hX : (0 : ℤ) < |x| := abs_pos.2 h.ne'
    have hY : (0 : ℤ) < |y| := abs_pos.2 hy.ne
    have h2 := slope_lt (X := |x|) (Y := |y|)
    have h1 := slope_pos hX hx hY
    have hxr : (0 : ℝ) < x := by exact_mod_cast h
    have e : angle y x * degrees = - slope |x| |y| := by
      unfold angle slope
      rw [if_pos hxr, abs_of_pos h, abs_of_neg hy]
      push_cast
      rw [neg_div, arctan_neg, neg_mul, neg_neg]
    rw [turn, e, wrap_neg (by linarith) (by linarith), abs_le]
    constructor <;> norm_num <;> linarith

/-- A vertical gradient is at 90 degrees, nearly; -/
theorem turn_vertical {y : ℤ} (hy : y ≠ 0) : |turn y ((0 : ℤ) : ℝ) - 90| ≤ 4 / 10 ^ 6 := by
  have h3 := half_lower
  have h4 := half_upper
  rcases lt_or_gt_of_ne hy with h | h
  · have hyr : (y : ℝ) < 0 := by exact_mod_cast h
    have e : angle y ((0 : ℤ) : ℝ) * degrees = -(π * degrees / 2) := by
      unfold angle
      rw [if_neg (by simp), if_neg (by simp), if_neg (by linarith), if_pos hyr]
      ring
    rw [turn, e, wrap_neg (by norm_num at h3 h4 ⊢; linarith) (by norm_num at h3 h4 ⊢; linarith), abs_le]
    constructor <;> norm_num at h3 h4 ⊢ <;> linarith
  · have hyr : (0 : ℝ) < y := by exact_mod_cast h
    have e : angle y ((0 : ℤ) : ℝ) * degrees = π * degrees / 2 := by
      unfold angle
      rw [if_neg (by simp), if_neg (by simp), if_pos hyr]
      ring
    rw [turn, e, wrap_pos (by norm_num at h3 h4 ⊢; linarith) (by norm_num at h3 h4 ⊢; linarith), abs_le]
    constructor <;> norm_num at h3 h4 ⊢ <;> linarith

/-- and a horizontal one at 0 or 180. -/
theorem turn_horizontal {x : ℤ} (hx : x ≠ 0) : turn ((0 : ℤ) : ℝ) x < 1 ∨ 179 < turn ((0 : ℤ) : ℝ) x := by
  have h3 := half_lower
  have h4 := half_upper
  rcases lt_or_gt_of_ne hx with h | h
  · have hxr : (x : ℝ) < 0 := by exact_mod_cast h
    have e : angle ((0 : ℤ) : ℝ) x * degrees = π * degrees := by
      unfold angle
      rw [if_neg (by linarith), if_pos hxr, if_pos (by simp)]
      simp
    rw [turn, e]
    rcases lt_or_ge (π * degrees) 180 with h5 | h5
    · rw [wrap_pos (by norm_num at h3 ⊢; linarith) h5]
      right; norm_num at h3 ⊢; linarith
    · rw [wrap_past h5 (by norm_num at h4 ⊢; linarith)]
      left; norm_num at h4 ⊢; linarith
  · have hxr : (0 : ℝ) < x := by exact_mod_cast h
    have e : angle ((0 : ℤ) : ℝ) x * degrees = 0 := by
      unfold angle
      rw [if_pos hxr]
      simp
    rw [turn, e, wrap_pos le_rfl (by norm_num)]
    left; norm_num

/-- The reference's three tests of the angle. -/
theorem sectors {x y : ℤ} (hx : |x| ≤ 1020) (hy : |y| ≤ 1020) (h : ¬ (x = 0 ∧ y = 0)) :
    ((turn y x < 22.5 ∨ 157.5 ≤ turn y x) ↔ Flat x y)
      ∧ (¬ Flat x y → ((22.5 ≤ turn y x ∧ turn y x < 67.5) ↔ 0 < x * y ∧ Slant x y))
      ∧ (¬ Flat x y → ((67.5 ≤ turn y x ∧ turn y x < 112.5) ↔ ¬ Slant x y)) := by
  have hY := abs_nonneg y
  unfold Flat Slant
  rcases eq_or_ne x 0 with rfl | hx0
  · have hy0 : y ≠ 0 := fun e => h ⟨rfl, e⟩
    have ht := abs_le.1 (turn_vertical hy0)
    have hp : 0 < |y| := abs_pos.2 hy0
    have f1 : ¬ ((|(0 : ℤ)| + |y|) ^ 2 < 2 * |(0 : ℤ)| ^ 2) := by rw [abs_zero]; nlinarith
    have f2 : ¬ (2 * |y| ^ 2 < (|(0 : ℤ)| + |y|) ^ 2) := by rw [abs_zero]; nlinarith
    norm_num at ht
    refine ⟨iff_of_false ?_ f1, fun _ => iff_of_false ?_ (fun c => f2 c.2), fun _ => iff_of_true ?_ f2⟩
    · rintro (c | c) <;> norm_num at c ht <;> linarith [ht.1, ht.2]
    · rintro ⟨_, c⟩; norm_num at c ht; linarith [ht.1, ht.2]
    · constructor <;> norm_num <;> linarith [ht.1, ht.2]
  have hX : 0 < |x| := abs_pos.2 hx0
  rcases eq_or_ne y 0 with rfl | hy0
  · have ht := turn_horizontal hx0
    have f1 : (|x| + |(0 : ℤ)|) ^ 2 < 2 * |x| ^ 2 := by rw [abs_zero]; nlinarith
    refine ⟨iff_of_true ?_ f1, fun c => absurd f1 c, fun c => absurd f1 c⟩
    rcases ht with ht | ht
    · exact Or.inl (ht.trans (by norm_num))
    · exact Or.inr (le_of_lt (lt_trans (by norm_num) ht))
  have hlt := slope_lt (X := |x|) (Y := |y|)
  have hnn := slope_nonneg hX hY
  by_cases f : (|x| + |y|) ^ 2 < 2 * |x| ^ 2
  · have s := slope_flat hX hx hY f
    refine ⟨iff_of_true ?_ f, fun c => absurd f c, fun c => absurd f c⟩
    rcases lt_or_gt_of_ne (mul_ne_zero hx0 hy0) with hs | hs
    · have ht := abs_le.1 (turn_opposite hx hs)
      right; norm_num at ht s ⊢; linarith [ht.1, ht.2]
    · have ht := abs_le.1 (turn_same hx hs)
      left; norm_num at ht s ⊢; linarith [ht.1, ht.2]
  · have s := slope_steep hX hx hY f
    rcases lt_or_gt_of_ne (mul_ne_zero hx0 hy0) with hs | hs
    · have ht := abs_le.1 (turn_opposite hx hs)
      norm_num at ht s
      refine ⟨iff_of_false ?_ f, fun _ => iff_of_false ?_ (fun c => absurd hs c.1.not_gt), fun _ => ?_⟩
      · rintro (c | c) <;> norm_num at c <;> linarith [ht.1, ht.2]
      · rintro ⟨_, c⟩; norm_num at c; linarith [ht.1, ht.2]
      · by_cases g : 2 * |y| ^ 2 < (|x| + |y|) ^ 2
        · have s' := slope_slant hX hY hy g
          refine iff_of_false ?_ (fun c => c g)
          rintro ⟨_, c⟩; norm_num at c s'; linarith [ht.1, ht.2]
        · have s' := slope_upright hX hY hy g
          refine iff_of_true ?_ g
          constructor <;> norm_num at s' ⊢ <;> linarith [ht.1, ht.2]
    · have ht := abs_le.1 (turn_same hx hs)
      norm_num at ht s
      refine ⟨iff_of_false ?_ f, fun _ => ?_, fun _ => ?_⟩
      · rintro (c | c) <;> norm_num at c <;> linarith [ht.1, ht.2]
      · by_cases g : 2 * |y| ^ 2 < (|x| + |y|) ^ 2
        · have s' := slope_slant hX hY hy g
          refine iff_of_true ?_ ⟨hs, g⟩
          constructor <;> norm_num at s' ⊢ <;> linarith [ht.1, ht.2]
        · have s' := slope_upright hX hY hy g
          refine iff_of_false ?_ (fun c => g c.2)
          rintro ⟨_, c⟩; norm_num at c s'; linarith [ht.1, ht.2]
      · by_cases g : 2 * |y| ^ 2 < (|x| + |y|) ^ 2
        · have s' := slope_slant hX hY hy g
          refine iff_of_false ?_ (fun c => c g)
          rintro ⟨c, _⟩; norm_num at c s'; linarith [ht.1, ht.2]
        · have s' := slope_upright hX hY hy g
          refine iff_of_true ?_ g
          constructor <;> norm_num at s' ⊢ <;> linarith [ht.1, ht.2]

/-- The kernel's test of one side against the other's product with the tangent. -/
theorem lt_tangent {X Y : ℤ} (hX : 0 ≤ X) (hX' : X ≤ 1020) (hY : 0 ≤ Y) :
    (Y : ℝ) < X * tangent ↔ (X + Y) ^ 2 < 2 * X ^ 2 := by
  rcases hX.eq_or_lt with rfl | hX0
  · have hy : (0 : ℝ) ≤ Y := by exact_mod_cast hY
    refine iff_of_false ?_ ?_
    · simp; exact hY
    · nlinarith
  have hx : (0 : ℝ) < X := by exact_mod_cast hX0
  have hx' : (X : ℝ) ≤ 1020 := by exact_mod_cast hX'
  have hy : (0 : ℝ) ≤ Y := by exact_mod_cast hY
  have hxx : (X : ℝ) ^ 2 ≤ 1040400 := by nlinarith
  constructor
  · intro h
    by_contra hc
    have h' : 2 * X ^ 2 < (X + Y) ^ 2 := lt_of_le_of_ne (not_lt.1 hc) fun e => no_square hX0 e.symm
    have h'' : 2 * (X : ℝ) ^ 2 + 1 ≤ (X + Y) ^ 2 := by exact_mod_cast h'
    have h3 : ((X : ℝ) + Y) ^ 2 ≤ (X * (1 + tangent)) ^ 2 :=
      pow_le_pow_left₀ (by linarith) (by rw [mul_add]; linarith) 2
    rw [mul_pow] at h3
    have h4 : (1 + tangent) ^ 2 ≤ 2 + 1 / 10 ^ 7 := by norm_num [tangent]
    generalize (1 + tangent) ^ 2 = q at h3 h4
    have h5 := mul_le_mul_of_nonneg_left h4 (sq_nonneg (X : ℝ))
    have h6 : (X : ℝ) ^ 2 * (2 + 1 / 10 ^ 7) = 2 * X ^ 2 + X ^ 2 / 10 ^ 7 := by ring
    have h7 : (X : ℝ) ^ 2 / 10 ^ 7 < 1 := by rw [div_lt_one (by norm_num)]; linarith
    linarith
  · intro h
    by_contra hc
    push Not at hc
    have h'' : ((X : ℝ) + Y) ^ 2 + 1 ≤ 2 * X ^ 2 := by exact_mod_cast h
    have h3 : (X * (1 + tangent)) ^ 2 ≤ ((X : ℝ) + Y) ^ 2 :=
      pow_le_pow_left₀ (by positivity) (by rw [mul_add]; linarith) 2
    rw [mul_pow] at h3
    have h4 : 2 - 1 / 10 ^ 7 ≤ (1 + tangent) ^ 2 := by norm_num [tangent]
    generalize (1 + tangent) ^ 2 = q at h3 h4
    have h5 := mul_le_mul_of_nonneg_left h4 (sq_nonneg (X : ℝ))
    have h6 : (X : ℝ) ^ 2 * (2 - 1 / 10 ^ 7) = 2 * X ^ 2 - X ^ 2 / 10 ^ 7 := by ring
    have h7 : (X : ℝ) ^ 2 / 10 ^ 7 < 1 := by rw [div_lt_one (by norm_num)]; linarith
    linarith

/-- The same with the sides exchanged. -/
theorem tangent_lt {X Y : ℤ} (hX : 0 ≤ X) (hY : 0 ≤ Y) (hY' : Y ≤ 1020) :
    (Y : ℝ) * tangent < X ↔ 2 * Y ^ 2 < (X + Y) ^ 2 := by
  rcases hY.eq_or_lt with rfl | hY0
  · simp only [Int.cast_zero, zero_mul, Int.cast_pos, add_zero]
    constructor
    · intro h; nlinarith
    · intro h
      by_contra hc
      have : X = 0 := by omega
      subst this
      simp at h
  have h := lt_tangent hY hY' hX
  have hx : (X : ℝ) ≠ Y * tangent := by
    intro e
    have e' : X * 33554432 = Y * 13898701 := by
      have : (X : ℝ) * 33554432 = Y * 13898701 := by rw [e]; norm_num [tangent]; ring
      exact_mod_cast this
    omega
  constructor
  · intro g
    have h1 : ¬ (X : ℝ) < Y * tangent := not_lt.2 g.le
    rw [h, add_comm Y X] at h1
    exact lt_of_le_of_ne (not_lt.1 h1) fun e => no_square hY0 e.symm
  · intro g
    refine lt_of_le_of_ne (not_lt.1 fun c => ?_) hx.symm
    rw [h, add_comm Y X] at c
    omega

end Canny

end
-- ==== Proof.Math.Plane.lean ====
/- One plane of the image as whole numbers: its gradients, their magnitude, the two neighbours the sector names, and the
   pixels that are strong and weak edges. -/
module

public import proofs.«01_k».proof.Proof.Math.Sector
public import proofs.«01_k».proof.Proof.Math.Flood

@[expose] public section

namespace Canny

/-- A plane of whole numbers, by row and column, repeated past its far edges. -/
abbrev Plane := ℕ → ℕ → ℤ

/-- The horizontal gradient: the column ahead less the column behind, -/
def gradX (I : Plane) : Plane := fun r c =>
  (I (r - 1) (c + 1) + 2 * I r (c + 1) + I (r + 1) (c + 1)) - (I (r - 1) (c - 1) + 2 * I r (c - 1) + I (r + 1) (c - 1))
/-- and the vertical one. -/
def gradY (I : Plane) : Plane := fun r c =>
  (I (r + 1) (c - 1) + 2 * I (r + 1) c + I (r + 1) (c + 1)) - (I (r - 1) (c - 1) + 2 * I (r - 1) c + I (r - 1) (c + 1))

/-- The gradient's magnitude. -/
def mag (I : Plane) : Plane := fun r c => |gradX I r c| + |gradY I r c|

/-- A plane framed by one row or column of zeros on each side. -/
def framed (f : Plane) : Plane := fun i j => if 1 ≤ i ∧ i ≤ 512 ∧ 1 ≤ j ∧ j ≤ 512 then f (i - 1) (j - 1) else 0

/-- The choice of a neighbour by the gradient's sector. -/
def choose (x y : ℤ) (flat rising steep falling : ℤ) : ℤ :=
  if Flat x y then flat else if 0 < x * y ∧ Slant x y then rising else if ¬ Slant x y then steep else falling

/-- The magnitude one pixel along the gradient, -/
def ahead (I : Plane) : Plane := fun r c =>
  choose (gradX I r c) (gradY I r c) (framed (mag I) (r + 1) (c + 2)) (framed (mag I) (r + 2) (c + 2))
    (framed (mag I) (r + 2) (c + 1)) (framed (mag I) (r + 2) c)
/-- and one pixel against it. -/
def behind (I : Plane) : Plane := fun r c =>
  choose (gradX I r c) (gradY I r c) (framed (mag I) (r + 1) c) (framed (mag I) r c)
    (framed (mag I) r (c + 1)) (framed (mag I) r (c + 2))

/-- The magnitude is least at neither neighbour. -/
def Peak (I : Plane) : Pixels := fun r c => ahead I r c ≤ mag I r c ∧ behind I r c ≤ mag I r c
/-- The pixels that are edges on their own, -/
def Strong (I : Plane) : Pixels := fun r c => Peak I r c ∧ 150 < mag I r c
/-- and those that are edges beside one. -/
def Weak (I : Plane) : Pixels := fun r c => Peak I r c ∧ 50 < mag I r c

theorem Strong.weak {I : Plane} {r c : ℕ} (h : Strong I r c) : Weak I r c := ⟨h.1, by have := h.2; omega⟩

/-- Pixels from 0 to 255. -/
def Ranged (I : Plane) : Prop := ∀ r c, 0 ≤ I r c ∧ I r c ≤ 255

theorem gradX_le {I : Plane} (h : Ranged I) (r c : ℕ) : |gradX I r c| ≤ 1020 := by
  unfold gradX
  have := h (r - 1) (c + 1); have := h r (c + 1); have := h (r + 1) (c + 1)
  have := h (r - 1) (c - 1); have := h r (c - 1); have := h (r + 1) (c - 1)
  rw [abs_le]; constructor <;> linarith

theorem gradY_le {I : Plane} (h : Ranged I) (r c : ℕ) : |gradY I r c| ≤ 1020 := by
  unfold gradY
  have := h (r + 1) (c - 1); have := h (r + 1) c; have := h (r + 1) (c + 1)
  have := h (r - 1) (c - 1); have := h (r - 1) c; have := h (r - 1) (c + 1)
  rw [abs_le]; constructor <;> linarith

/-- A pixel without gradient is no edge. -/
theorem mag_zero {I : Plane} {r c : ℕ} (hx : gradX I r c = 0) (hy : gradY I r c = 0) : mag I r c = 0 := by
  unfold mag; rw [hx, hy]; rfl

/-- The pixels of a plane of numbers, an index past the far edge being the last. -/
noncomputable def planeOf (v : Fin 512 → Fin 512 → ℝ) : Plane := fun r c =>
  ⌊v ⟨min r 511, by omega⟩ ⟨min c 511, by omega⟩ * 255⌋

theorem planeOf_ranged {v : Fin 512 → Fin 512 → ℝ} (h : ∀ r c, 0 ≤ v r c ∧ v r c ≤ 1) : Ranged (planeOf v) := by
  intro r c
  obtain ⟨h0, h1⟩ := h ⟨min r 511, by omega⟩ ⟨min c 511, by omega⟩
  unfold planeOf
  constructor
  · exact Int.floor_nonneg.2 (by linarith)
  · have : (⌊v ⟨min r 511, by omega⟩ ⟨min c 511, by omega⟩ * 255⌋ : ℝ) ≤ 255 := (Int.floor_le _).trans (by linarith)
    exact_mod_cast this

theorem planeOf_at (v : Fin 512 → Fin 512 → ℝ) (r c : Fin 512) : planeOf v r c = ⌊v r c * 255⌋ := by
  unfold planeOf
  have e : ∀ a : Fin 512, (⟨min (a : ℕ) 511, by omega⟩ : Fin 512) = a := fun a => Fin.ext (by
    show min (a : ℕ) 511 = a
    have := a.isLt
    omega)
  rw [e r, e c]

/-- Past its far edges a plane of numbers repeats. -/
theorem planeOf_clamp (v : Fin 512 → Fin 512 → ℝ) (r c r' c' : ℕ) (hr : min r 511 = min r' 511) (hc : min c 511 = min c' 511) :
    planeOf v r c = planeOf v r' c' := by
  unfold planeOf
  simp only [hr, hc]

end Canny

end
-- ==== Proof.Math.Values.lean ====
/- Whole numbers as values of the ideal arithmetic, and propositions as one-bit words. -/
module

public import proofs.«01_k».proof.Proof.Math.Plane
public import Idealize.ShloMosaic.PureOps.Ideal

@[expose] public section
noncomputable section
namespace Canny

open Idealize.ShloMosaic

/-- A real number as a value, -/
abbrev real (a : ℝ) : EReal := (a : EReal)
/-- and a whole one. -/
def whole (n : ℤ) : EReal := ((n : ℝ) : EReal)

theorem whole_add (a b : ℤ) : whole a + whole b = whole (a + b) := by unfold whole; push_cast; rfl
theorem whole_sub (a b : ℤ) : whole a - whole b = whole (a - b) := by
  unfold whole; rw [Int.cast_sub]; exact (EReal.coe_sub _ _).symm
theorem whole_mul (a b : ℤ) : whole a * whole b = whole (a * b) := by
  unfold whole; rw [Int.cast_mul]; exact (EReal.coe_mul _ _).symm

theorem whole_lt (a b : ℤ) : whole a < whole b ↔ a < b := by
  unfold whole; rw [EReal.coe_lt_coe_iff]; exact Int.cast_lt
theorem whole_le (a b : ℤ) : whole a ≤ whole b ↔ a ≤ b := by
  unfold whole; rw [EReal.coe_le_coe_iff]; exact Int.cast_le
theorem whole_inj (a b : ℤ) : whole a = whole b ↔ a = b := by
  unfold whole; rw [EReal.coe_eq_coe_iff]; exact Int.cast_inj

theorem whole_abs (a : ℤ) : max (whole a) (-whole a) = whole |a| := by
  unfold whole
  rw [← EReal.coe_neg, Int.cast_abs]
  rcases le_total 0 (a : ℝ) with h | h
  · rw [abs_of_nonneg h, max_eq_left]
    rw [EReal.coe_le_coe_iff]; linarith
  · rw [abs_of_nonpos h, max_eq_right]
    rw [EReal.coe_le_coe_iff]; linarith

theorem lit_zero : Ideal.ofBits .f32 0x00000000#32 = whole 0 := by
  simp [whole, Ideal.ofBits, Ideal.ieee, -EReal.coe_mul]
theorem lit_one : Ideal.ofBits .f32 0x3F800000#32 = whole 1 := by
  simp [whole, Ideal.ofBits, Ideal.ieee, -EReal.coe_mul]; norm_num
theorem lit_two : Ideal.ofBits .f32 0x40000000#32 = whole 2 := by
  simp [whole, Ideal.ofBits, Ideal.ieee, -EReal.coe_mul]; norm_num
theorem lit_255 : Ideal.ofBits .f32 0x437F0000#32 = whole 255 := by
  simp [whole, Ideal.ofBits, Ideal.ieee, -EReal.coe_mul]; norm_num
theorem lit_150 : Ideal.ofBits .f32 0x43160000#32 = whole 150 := by
  simp [whole, Ideal.ofBits, Ideal.ieee, -EReal.coe_mul]; norm_num
theorem lit_50 : Ideal.ofBits .f32 0x42480000#32 = whole 50 := by
  simp [whole, Ideal.ofBits, Ideal.ieee, -EReal.coe_mul]; norm_num
theorem lit_180 : Ideal.ofBits .f32 0x43340000#32 = real 180 := by
  simp [real, Ideal.ofBits, Ideal.ieee, -EReal.coe_mul]; norm_num
theorem lit_tangent : Ideal.ofBits .f32 0x3ED413CD#32 = real tangent := by
  simp [real, tangent, Ideal.ofBits, Ideal.ieee, -EReal.coe_mul]; norm_num
theorem lit_degrees : Ideal.ofBits .f32 0x42652EE1#32 = real degrees := by
  simp [real, degrees, Ideal.ofBits, Ideal.ieee, -EReal.coe_mul]; norm_num
theorem lit_low : Ideal.ofBits .f32 0x41B40000#32 = real 22.5 := by
  simp [real, Ideal.ofBits, Ideal.ieee, -EReal.coe_mul]; norm_num
theorem lit_mid : Ideal.ofBits .f32 0x42870000#32 = real 67.5 := by
  simp [real, Ideal.ofBits, Ideal.ieee, -EReal.coe_mul]; norm_num
theorem lit_high : Ideal.ofBits .f32 0x42E10000#32 = real 112.5 := by
  simp [real, Ideal.ofBits, Ideal.ieee, -EReal.coe_mul]; norm_num
theorem lit_top : Ideal.ofBits .f32 0x431D8000#32 = real 157.5 := by
  simp [real, Ideal.ofBits, Ideal.ieee, -EReal.coe_mul]; norm_num

open Classical in
/-- A proposition as a one-bit word. -/
def bit (p : Prop) : BitVec 1 := BitVec.ofBool (decide p)

theorem bit_true {p : Prop} (h : p) : bit p = 1#1 := by unfold bit; simp [h]
theorem bit_false {p : Prop} (h : ¬ p) : bit p = 0#1 := by unfold bit; simp [h]

theorem bit_congr {p q : Prop} (h : p ↔ q) : bit p = bit q := by
  by_cases hp : p
  · rw [bit_true hp, bit_true (h.1 hp)]
  · rw [bit_false hp, bit_false fun k => hp (h.2 k)]

theorem bit_and (p q : Prop) : IntOp.andi (bit p) (bit q) = bit (p ∧ q) := by
  by_cases hp : p <;> by_cases hq : q <;>
    simp only [bit_true, bit_false, hp, hq, and_true, and_false, not_false_eq_true] <;> rfl
theorem bit_or (p q : Prop) : IntOp.ori (bit p) (bit q) = bit (p ∨ q) := by
  by_cases hp : p <;> by_cases hq : q <;>
    simp only [bit_true, bit_false, hp, hq, or_true, or_false, not_false_eq_true] <;> rfl

open Classical in
theorem bit_select {α : Type} (p : Prop) (a b : α) : Scalar.select (bit p) a b = if p then a else b := by
  by_cases hp : p
  · rw [bit_true hp, if_pos hp]; rfl
  · rw [bit_false hp, if_neg hp]; rfl

theorem bit_eq_one (p : Prop) : bit p = 1#1 ↔ p := by
  by_cases hp : p
  · rw [bit_true hp]; exact ⟨fun _ => hp, fun _ => rfl⟩
  · rw [bit_false hp]; exact ⟨fun h => absurd h (by decide), fun h => absurd h hp⟩

theorem of_decide {p : Prop} [Decidable p] : BitVec.ofBool (decide p) = bit p := by
  by_cases h : p
  · rw [bit_true h]; simp [h]
  · rw [bit_false h]; simp [h]

theorem whole_zero : (0 : EReal) = whole 0 := by unfold whole; simp
theorem whole_one : (1 : EReal) = whole 1 := by unfold whole; simp

/-- Comparisons of values. -/
theorem cmp_lt (x y : EReal) : Ideal.cmp .olt x y = bit (x < y) := by
  by_cases h : x < y
  · rw [bit_true h]; simp [Ideal.cmp, h]
  · rw [bit_false h]; simp [Ideal.cmp, h]
theorem cmp_le (x y : EReal) : Ideal.cmp .ole x y = bit (x ≤ y) := by
  by_cases h : x ≤ y
  · rw [bit_true h]; simp [Ideal.cmp, h]
  · rw [bit_false h]; simp [Ideal.cmp, h]
theorem cmp_gt (x y : EReal) : Ideal.cmp .ogt x y = bit (y < x) := by
  by_cases h : y < x
  · rw [bit_true h]; simp [Ideal.cmp, h]
  · rw [bit_false h]; simp [Ideal.cmp, h]
theorem cmp_ge (x y : EReal) : Ideal.cmp .oge x y = bit (y ≤ x) := by
  by_cases h : y ≤ x
  · rw [bit_true h]; simp [Ideal.cmp, h]
  · rw [bit_false h]; simp [Ideal.cmp, h]
theorem cmp_ne (x y : EReal) : Ideal.cmp .une x y = bit (x ≠ y) := by
  by_cases h : x ≠ y
  · rw [bit_true h]; simp [Ideal.cmp, h]
  · rw [bit_false h]; simp [Ideal.cmp, h]

/-- One of two values that are one number. -/
theorem dite_whole {p : Prop} [Decidable p] {a : p → EReal} {b : ¬ p → EReal} {n : EReal}
    (ha : ∀ h, a h = n) (hb : ∀ h, b h = n) : (if h : p then a h else b h) = n := by
  by_cases h : p
  · rw [dif_pos h, ha h]
  · rw [dif_neg h, hb h]

/-- A neighbour inside the frame, -/
theorem framed_eq {f : Plane} {i j a b : ℕ} (ha : a < 512) (hb : b < 512) (hi : i = a + 1) (hj : j = b + 1) :
    whole (f a b) = whole (framed f i j) := by
  unfold framed; subst hi; subst hj; rw [if_pos ⟨by omega, by omega, by omega, by omega⟩]; rfl
/-- and one on it. -/
theorem framed_zero {f : Plane} {i j : ℕ} (h : i = 0 ∨ 513 ≤ i ∨ j = 0 ∨ 513 ≤ j) : (0 : EReal) = whole (framed f i j) := by
  unfold framed; rw [if_neg, whole_zero]; rintro ⟨a, b, c, d⟩; omega

/-- The choice by the sector's bits. -/
theorem select_choose {x y : ℤ} {f g s : BitVec 1} (hf : f = bit (Flat x y)) (hg : g = bit (0 < x * y ∧ Slant x y))
    (hs : s = bit (¬ Slant x y)) {a b c d : EReal} {a' b' c' d' : ℤ} (ha : a = whole a') (hb : b = whole b')
    (hc : c = whole c') (hd : d = whole d') :
    Scalar.select f a (Scalar.select g b (Scalar.select s c d)) = whole (choose x y a' b' c' d') := by
  subst hf hg hs ha hb hc hd
  rw [bit_select, bit_select, bit_select]
  unfold choose
  split_ifs <;> rfl

/-- The choice by tests that name the same sector, the later ones where the first fails. -/
theorem select_where {x y : ℤ} {f g s : BitVec 1} {P Q R : Prop} (hf : f = bit P) (hg : g = bit Q) (hs : s = bit R)
    (hP : P ↔ Flat x y) (hQ : ¬ Flat x y → (Q ↔ 0 < x * y ∧ Slant x y)) (hR : ¬ Flat x y → (R ↔ ¬ Slant x y))
    {a b c d : EReal} {a' b' c' d' : ℤ} (ha : a = whole a') (hb : b = whole b') (hc : c = whole c') (hd : d = whole d') :
    Scalar.select f a (Scalar.select g b (Scalar.select s c d)) = whole (choose x y a' b' c' d') := by
  by_cases h : Flat x y
  · subst hf ha
    rw [bit_select, if_pos (hP.2 h)]
    unfold choose
    rw [if_pos h]
  · exact select_choose (hf.trans (bit_congr hP)) (hg.trans (bit_congr (hQ h))) (hs.trans (bit_congr (hR h))) ha hb hc hd

end Canny
end
-- ==== Proof.KI.Pixels.lean ====
/- The values of the kernel's planes at a pixel, on a block of real numbers: the gradients, their magnitude, the sector's
   tests, and the strong and weak pixels. -/
module

public import proofs.«01_k».proof.Proof.KI.Packing
public import proofs.«01_k».proof.Proof.Math.Values

@[expose] public section
set_option maxRecDepth 16384
noncomputable section
namespace Cert.KernelIdeal.Hand

open Cert.KernelIdeal Cert.KernelIdeal.Gen
open Idealize.ShloMosaic Idealize.ShloMosaic.Tactic
open Canny

/-- The block `x` holds the numbers `v`. -/
def Holds (x : Vec Ideal S1x512x512 .f32) (v : Fin 512 → Fin 512 → ℝ) : Prop :=
  ∀ r c : Fin 512, x (ix3 0 r c) = ((v r c : ℝ) : EReal)

/-- A selection of one or zero marks a proposition. -/
theorem mark (p : Prop) : (p → Scalar.select (bit p) (1 : EReal) 0 = ((1 : ℝ) : EReal)) ∧
    (¬ p → Scalar.select (bit p) (1 : EReal) 0 = ((0 : ℝ) : EReal)) := by
  constructor
  · intro h; rw [bit_select, if_pos h]; rfl
  · intro h; rw [bit_select, if_neg h]; rfl

section
variable {x : Vec Ideal S1x512x512 .f32} {v : Fin 512 → Fin 512 → ℝ} (hx : Holds x v)
include hx

theorem img_at (r c : Fin 512) : k0_pay3 x (ix2 r c) = whole (planeOf v r c) := by
  pointwise [k0_pay3]
  rw [hx r c, lit_255, planeOf_at]
  unfold whole
  rw [← EReal.coe_mul, Ideal.liftRound_coe]
  norm_num

theorem above_at (r c : Fin 512) : k0_pay4 x (ix2 r c) = whole (planeOf v (r - 1) c) := by
  pointwise [k0_pay4]
  refine dite_whole (fun h => ?_) (fun h => ?_)
  · rw [img_at hx]; exact congrArg whole (planeOf_clamp v _ _ _ _ (by simp; omega) rfl)
  · rw [img_at hx]

theorem below_at (r c : Fin 512) : k0_pay5 x (ix2 r c) = whole (planeOf v (r + 1) c) := by
  pointwise [k0_pay5]
  refine dite_whole (fun h => ?_) (fun h => ?_)
  · rw [img_at hx]; exact congrArg whole (planeOf_clamp v _ _ _ _ (by simp; omega) rfl)
  · rw [img_at hx]; exact congrArg whole (planeOf_clamp v _ _ _ _ (by simp; omega) rfl)

/-- A column of the sum of three rows, -/
theorem sum_at (r c : Fin 512) (C : ℕ) (h : min (c : ℕ) 511 = min C 511) :
    k0_pay4 x (ix2 r c) + Ideal.ofBits FTy.f32 1073741824#32 * k0_pay3 x (ix2 r c) + k0_pay5 x (ix2 r c) =
      whole (planeOf v (r - 1) C + 2 * planeOf v r C + planeOf v (r + 1) C) := by
  rw [above_at hx, img_at hx, below_at hx, lit_two, whole_mul, whole_add, whole_add]
  have e : ∀ a : ℕ, planeOf v a c = planeOf v a C := fun a => planeOf_clamp v _ _ _ _ rfl h
  rw [e, e, e]

/-- and of the row below less the row above. -/
theorem diff_at (r c : Fin 512) (C : ℕ) (h : min (c : ℕ) 511 = min C 511) :
    k0_pay5 x (ix2 r c) - k0_pay4 x (ix2 r c) = whole (planeOf v (r + 1) C - planeOf v (r - 1) C) := by
  rw [above_at hx, below_at hx, whole_sub]
  have e : ∀ a : ℕ, planeOf v a c = planeOf v a C := fun a => planeOf_clamp v _ _ _ _ rfl h
  rw [e, e]

theorem gradX_at (r c : Fin 512) : k0_pay6 x (ix2 r c) = whole (gradX (planeOf v) r c) := by
  pointwise [k0_pay6]
  unfold gradX
  rw [← whole_sub]
  refine congrArg₂ (· - ·) (dite_whole (fun h => ?_) (fun h => ?_)) (dite_whole (fun h => ?_) (fun h => ?_))
  · exact sum_at hx r _ _ (by simp; omega)
  · exact sum_at hx r _ _ (by simp; omega)
  · exact sum_at hx r _ _ (by omega)
  · exact sum_at hx r _ _ rfl

theorem gradY_at (r c : Fin 512) : k0_pay7 x (ix2 r c) = whole (gradY (planeOf v) r c) := by
  pointwise [k0_pay7]
  have e : gradY (planeOf v) r c = (planeOf v (r + 1) (c - 1) - planeOf v (r - 1) (c - 1)) +
      2 * (planeOf v (r + 1) c - planeOf v (r - 1) c) + (planeOf v (r + 1) (c + 1) - planeOf v (r - 1) (c + 1)) := by
    unfold gradY; ring
  rw [e, ← whole_add, ← whole_add, ← whole_mul, lit_two]
  refine congrArg₂ (· + ·) (congrArg₂ (· + ·) (dite_whole (fun h => ?_) (fun h => ?_))
    (congrArg (whole 2 * ·) (diff_at hx r c c rfl))) (dite_whole (fun h => ?_) (fun h => ?_))
  · exact diff_at hx r _ _ (by omega)
  · exact diff_at hx r _ _ rfl
  · exact diff_at hx r _ _ (by simp; omega)
  · exact diff_at hx r _ _ (by simp; omega)

theorem absX_at (r c : Fin 512) : k0_pay8 x (ix2 r c) = whole |gradX (planeOf v) r c| := by
  pointwise [k0_pay8]
  rw [gradX_at hx]
  exact whole_abs _

theorem absY_at (r c : Fin 512) : k0_pay9 x (ix2 r c) = whole |gradY (planeOf v) r c| := by
  pointwise [k0_pay9]
  rw [gradY_at hx]
  exact whole_abs _

theorem mag_at (r c : Fin 512) : k0_pay10 x (ix2 r c) = whole (mag (planeOf v) r c) := by
  pointwise [k0_pay10]
  rw [absX_at hx, absY_at hx, whole_add]; rfl

variable (hv : ∀ r c, 0 ≤ v r c ∧ v r c ≤ 1)
include hv

theorem flat_at (r c : Fin 512) : k0_pay11 x (ix2 r c) = bit (Flat (gradX (planeOf v) r c) (gradY (planeOf v) r c)) := by
  pointwise [k0_pay11]
  rw [of_decide, absX_at hx, absY_at hx, lit_tangent]
  refine bit_congr ?_
  unfold whole real Flat
  rw [← EReal.coe_mul, EReal.coe_lt_coe_iff]
  exact lt_tangent (abs_nonneg _) (gradX_le (planeOf_ranged hv) r c) (abs_nonneg _)

theorem slant_at (r c : Fin 512) : k0_pay9 x (ix2 r c) * Ideal.ofBits FTy.f32 1054086093#32 < k0_pay8 x (ix2 r c) ↔
    Slant (gradX (planeOf v) r c) (gradY (planeOf v) r c) := by
  rw [absX_at hx, absY_at hx, lit_tangent]
  unfold whole real Slant
  rw [← EReal.coe_mul, EReal.coe_lt_coe_iff]
  exact tangent_lt (abs_nonneg _) (abs_nonneg _) (gradY_le (planeOf_ranged hv) r c)

theorem rising_at (r c : Fin 512) : k0_pay12 x (ix2 r c) =
    bit (0 < gradX (planeOf v) r c * gradY (planeOf v) r c ∧ Slant (gradX (planeOf v) r c) (gradY (planeOf v) r c)) := by
  pointwise [k0_pay12]
  rw [of_decide, of_decide, bit_and]
  refine bit_congr (and_congr ?_ (slant_at hx hv r c))
  rw [gradX_at hx, gradY_at hx, whole_mul, whole_zero, whole_lt]

theorem steep_at (r c : Fin 512) : k0_pay13 x (ix2 r c) = bit (¬ Slant (gradX (planeOf v) r c) (gradY (planeOf v) r c)) := by
  pointwise [k0_pay13]
  rw [of_decide]
  refine bit_congr ?_
  rw [← slant_at hx hv r c, not_lt]

theorem peak_at (r c : Fin 512) : k0_pay14 (k0_pay10 x) (k0_pay11 x) (k0_pay12 x) (k0_pay13 x) (ix2 r c) =
    bit (Peak (planeOf v) r c) := by
  pointwise [k0_pay14]
  rw [of_decide, of_decide, bit_and]
  have key : ∀ A B M : EReal, A = whole (ahead (planeOf v) r c) → B = whole (behind (planeOf v) r c) →
      M = whole (mag (planeOf v) r c) → bit (A ≤ M ∧ B ≤ M) = bit (Peak (planeOf v) r c) := by
    intro A B M hA hB hM
    rw [hA, hB, hM, whole_le, whole_le]; rfl
  have hr := r.isLt
  have hc := c.isLt
  refine key _ _ _ ?_ ?_ (mag_at hx r c)
  · unfold ahead
    refine select_choose (flat_at hx hv r c) (rising_at hx hv r c) (steep_at hx hv r c) ?_ ?_ ?_ ?_
    · refine dite_whole (fun h => (mag_at hx _ _).trans (framed_eq (f := mag (planeOf v)) ?_ ?_ ?_ ?_)) (fun h => framed_zero ?_) <;> (try dsimp only) <;> omega
    · refine dite_whole (fun h => dite_whole (fun h' => (mag_at hx _ _).trans (framed_eq (f := mag (planeOf v)) ?_ ?_ ?_ ?_)) (fun h' => framed_zero ?_))
        (fun h => framed_zero ?_) <;> (try dsimp only) <;> omega
    · refine dite_whole (fun h => (mag_at hx _ _).trans (framed_eq (f := mag (planeOf v)) ?_ ?_ ?_ ?_)) (fun h => framed_zero ?_) <;> (try dsimp only) <;> omega
    · refine dite_whole (fun h => dite_whole (fun h' => framed_zero ?_) (fun h' => (mag_at hx _ _).trans (framed_eq (f := mag (planeOf v)) ?_ ?_ ?_ ?_)))
        (fun h => framed_zero ?_) <;> (try dsimp only) <;> omega
  · unfold behind
    refine select_choose (flat_at hx hv r c) (rising_at hx hv r c) (steep_at hx hv r c) ?_ ?_ ?_ ?_
    · refine dite_whole (fun h => framed_zero ?_) (fun h => (mag_at hx _ _).trans (framed_eq (f := mag (planeOf v)) ?_ ?_ ?_ ?_)) <;> (try dsimp only) <;> omega
    · refine dite_whole (fun h => framed_zero ?_) (fun h => dite_whole (fun h' => framed_zero ?_)
        (fun h' => (mag_at hx _ _).trans (framed_eq (f := mag (planeOf v)) ?_ ?_ ?_ ?_))) <;> (try dsimp only) <;> omega
    · refine dite_whole (fun h => framed_zero ?_) (fun h => (mag_at hx _ _).trans (framed_eq (f := mag (planeOf v)) ?_ ?_ ?_ ?_)) <;> (try dsimp only) <;> omega
    · refine dite_whole (fun h => framed_zero ?_) (fun h => dite_whole
        (fun h' => (mag_at hx _ _).trans (framed_eq (f := mag (planeOf v)) ?_ ?_ ?_ ?_)) (fun h' => framed_zero ?_)) <;> (try dsimp only) <;> omega

theorem strong_marks : Marks (strongMask x) (Strong (planeOf v)) := by
  intro r c
  have e : strongMask x (ix2 r c) = Scalar.select (bit (Strong (planeOf v) r c)) (1 : EReal) 0 := by
    unfold strongMask
    pointwise [k0_pay15]
    rw [of_decide, peak_at hx hv, bit_and, mag_at hx, lit_150, whole_lt]
    rfl
  rw [e]
  exact mark _

theorem weak_marks : Marks (weakMask x) (Weak (planeOf v)) := by
  intro r c
  have e : weakMask x (ix2 r c) = Scalar.select (bit (Weak (planeOf v) r c)) (1 : EReal) 0 := by
    unfold weakMask
    pointwise [k0_pay16]
    rw [of_decide, peak_at hx hv, bit_and, mag_at hx, lit_50, whole_lt]
    rfl
  rw [e]
  exact mark _

/-- THE BLOCK STORED, on a block of numbers from 0 to 1. -/
theorem outBlk_edges (h : Halts Ideal) (r k : Fin 512) :
    (Reach (Strong (planeOf v)) (Weak (planeOf v)) r k → outBlk h x (ix3 0 r k) = ((1 : ℝ) : EReal)) ∧
      (¬ Reach (Strong (planeOf v)) (Weak (planeOf v)) r k → outBlk h x (ix3 0 r k) = ((0 : ℝ) : EReal)) :=
  outBlk_at h (strong_marks hx hv) (weak_marks hx hv) (fun _ _ _ _ s => s.weak) r k

end

end Cert.KernelIdeal.Hand
end
-- ==== Proof.RI.Pixels.lean ====
/- The values of the reference's planes at a pixel, on an image of real numbers from 0 to 1: the gradients, their magnitude,
   the sector by the angle, and the strong and weak pixels. -/
module

public import proofs.«01_k».proof.Proof.Gen.ReferenceIdeal.Step
public import proofs.«01_k».proof.Proof.Math.Values
public import Idealize.ShloMosaic.Lib.Pointwise

@[expose] public section
set_option maxRecDepth 16384
noncomputable section
namespace Cert.ReferenceIdeal.Hand

open Cert.ReferenceIdeal Cert.ReferenceIdeal.Gen
open Idealize.ShloMosaic Idealize.ShloMosaic.Tactic
open Canny Step

/-- The image as ninety-six planes. -/
def planes (x : (⟨S32x3x512x512, .f32⟩ : BufTy).Contents (Elt Ideal)) : (⟨S96x512x512, .f32⟩ : BufTy).Contents (Elt Ideal) :=
  shapeCast S96x512x512 x shapeCasts_S32x3x512x512_S96x512x512

/-- The image's planes hold the numbers `v`. -/
def Image (x : (⟨S32x3x512x512, .f32⟩ : BufTy).Contents (Elt Ideal)) (v : Fin 96 → Fin 512 → Fin 512 → ℝ) : Prop :=
  ∀ (t : Fin 96) (r c : Fin 512), planes x (ix3 t r c) = ((v t r c : ℝ) : EReal)

section
variable {x : (⟨S32x3x512x512, .f32⟩ : BufTy).Contents (Elt Ideal)} {v : Fin 96 → Fin 512 → Fin 512 → ℝ}
  (hx : Image x v) (hv : ∀ t r c, 0 ≤ v t r c ∧ v t r c ≤ 1)
include hx hv

/-- A pixel scaled: the clip to [0, 255] changes nothing. -/
theorem pixel_at (t : Fin 96) (r c : Fin 512) : A_main_v4 x (ix3 t r c) = whole (planeOf (v t) r c) := by
  have e : A_main_v4 x = fun i => min (Ideal.ofBits .f32 0x437F0000#32) (max (Ideal.ofBits .f32 0x00000000#32)
      (Ideal.liftRound Int.floor (planes x i * Ideal.ofBits .f32 0x437F0000#32))) := rfl
  rw [e]
  show min _ (max _ (Ideal.liftRound Int.floor (planes x (ix3 t r c) * _))) = _
  have p := planeOf_ranged (hv t) r c
  rw [planeOf_at] at p ⊢
  have f : Ideal.liftRound Int.floor (((v t r c : ℝ) : EReal) * whole 255) = whole ⌊v t r c * 255⌋ := by
    unfold whole
    rw [← EReal.coe_mul, Ideal.liftRound_coe]
    norm_num
  rw [hx t r c, lit_255, lit_zero, f, max_eq_right ((whole_le _ _).2 p.1), min_eq_right ((whole_le _ _).2 p.2)]

/-- The image with a row repeated above and below, -/
theorem rows_at (t : Fin 96) (r : Fin 514) (c : Fin 512) : A_main_v7 x (ix3 t r c) = whole (planeOf (v t) (r - 1) c) := by
  pointwise [A_main_v7, A_main_v5, A_main_v6]
  have hr := r.isLt
  refine dite_whole (fun h => ?_) (fun h => dite_whole (fun h' => ?_) (fun h' => ?_)) <;> rw [pixel_at hx hv] <;>
    refine congrArg whole (planeOf_clamp _ _ _ _ _ ?_ rfl) <;> dsimp only <;> omega

/-- and with a column repeated left and right. -/
theorem edged_at (t : Fin 96) (r c : Fin 514) : A_main_v10 x (ix3 t r c) = whole (planeOf (v t) (r - 1) (c - 1)) := by
  pointwise [A_main_v10, A_main_v8, A_main_v9]
  have hc := c.isLt
  refine dite_whole (fun h => ?_) (fun h => dite_whole (fun h' => ?_) (fun h' => ?_)) <;> rw [rows_at hx hv] <;>
    refine congrArg whole (planeOf_clamp _ _ _ _ _ rfl ?_) <;> dsimp only <;> omega

/-- The edged image at a pixel's neighbour. -/
theorem near_at (t : Fin 96) (r c : Fin 514) (R C : ℕ) (hr : (r : ℕ) - 1 = R) (hc : (c : ℕ) - 1 = C) :
    A_main_v10 x (ix3 t r c) = whole (planeOf (v t) R C) := by
  rw [edged_at hx hv, hr, hc]

theorem gradX_at (t : Fin 96) (r c : Fin 512) : A_main_v25 x (ix3 t r c) = whole (gradX (planeOf (v t)) r c) := by
  pointwise [A_main_v25, A_main_v17, A_main_v24, A_main_v16, A_main_v22, A_main_v23, A_main_v18, A_main_v21, A_main_v19,
    K_main_v20, K_main_cst_3, A_main_v15, A_main_v11, A_main_v14, K_main_v13, K_main_cst_2, A_main_v12]
  unfold gradX
  rw [lit_two, ← whole_sub, ← whole_add, ← whole_add, ← whole_mul, ← whole_add, ← whole_add, ← whole_mul]
  refine congrArg₂ (· - ·) (congrArg₂ (· + ·) (congrArg₂ (· + ·) ?_ (congrArg (whole 2 * ·) ?_)) ?_)
    (congrArg₂ (· + ·) (congrArg₂ (· + ·) ?_ (congrArg (whole 2 * ·) ?_)) ?_) <;>
    refine near_at hx hv t _ _ _ _ ?_ ?_ <;> dsimp only <;> omega

theorem gradY_at (t : Fin 96) (r c : Fin 512) : A_main_v40 x (ix3 t r c) = whole (gradY (planeOf (v t)) r c) := by
  pointwise [A_main_v40, A_main_v32, A_main_v39, A_main_v30, A_main_v31, A_main_v26, A_main_v29, A_main_v27, K_main_v28,
    K_main_cst_4, A_main_v37, A_main_v38, A_main_v33, A_main_v36, A_main_v34, K_main_v35, K_main_cst_5]
  unfold gradY
  rw [lit_two, ← whole_sub, ← whole_add, ← whole_add, ← whole_mul, ← whole_add, ← whole_add, ← whole_mul]
  refine congrArg₂ (· - ·) (congrArg₂ (· + ·) (congrArg₂ (· + ·) ?_ (congrArg (whole 2 * ·) ?_)) ?_)
    (congrArg₂ (· + ·) (congrArg₂ (· + ·) ?_ (congrArg (whole 2 * ·) ?_)) ?_) <;>
    refine near_at hx hv t _ _ _ _ ?_ ?_ <;> dsimp only <;> omega

theorem mag_at (t : Fin 96) (r c : Fin 512) : A_main_v43 x (ix3 t r c) = whole (mag (planeOf (v t)) r c) := by
  pointwise [A_main_v43, A_main_v41, A_main_v42]
  rw [gradX_at hx hv, gradY_at hx hv]
  unfold mag
  rw [← whole_add, ← whole_abs, ← whole_abs]
  rfl

/-- The magnitude framed by zeros. -/
theorem framed_at (t : Fin 96) (r c : Fin 514) : A_main_v48 x (ix3 t r c) = whole (framed (mag (planeOf (v t))) r c) := by
  pointwise [A_main_v48, K_main_call2_v0, K_main_c]
  have z : FloatOps.sitofp (F := Ideal) FTy.f32 0#32 = (0 : EReal) := by
    show ((((0#32).toInt : ℤ) : ℝ) : EReal) = 0
    simp
  refine dite_whole (fun h => (mag_at hx hv _ _ _).trans (framed_eq (f := mag (planeOf (v t))) ?_ ?_ ?_ ?_))
    (fun h => z.trans (framed_zero ?_)) <;> (try dsimp only) <;> omega

theorem framed_near (t : Fin 96) (r c : Fin 514) (R C : ℕ) (hr : (r : ℕ) = R) (hc : (c : ℕ) = C) :
    A_main_v48 x (ix3 t r c) = whole (framed (mag (planeOf (v t))) R C) := by
  rw [framed_at hx hv, hr, hc]

/-- The angle's remainder on division by 180, -/
theorem rest_at (t : Fin 96) (r c : Fin 512) : A_main_call1_v2 x (ix3 t r c) =
    real (rest (angle (gradY (planeOf (v t)) r c) (gradX (planeOf (v t)) r c) * degrees)) := by
  pointwise [A_main_call1_v2, A_main_v46, A_main_v44, K_main_v45, K_main_cst_6, K_main_call1_v1, K_main_call1_v0, K_main_cst_7]
  have k : id (constant (F := Ideal) S_ FTy.f32 1127481344#32) ix0 = real 180 := lit_180
  rw [gradX_at hx hv, gradY_at hx hv, k, lit_degrees]
  have a : ∀ y x : ℤ, Ideal.atan2 (whole y) (whole x) = real (angle y x) := fun _ _ => rfl
  rw [a]
  unfold real
  rw [← EReal.coe_mul, Ideal.remf_coe, if_neg (by norm_num)]
  rfl

/-- and the angle from 0 to 180. -/
theorem turn_at (t : Fin 96) (r c : Fin 512) : A_main_v47 x (ix3 t r c) =
    real (turn (gradY (planeOf (v t)) r c) (gradX (planeOf (v t)) r c)) := by
  pointwise [A_main_v47, A_main_call1_v10, A_main_call1_v12, A_main_call1_v9, A_main_call1_v4, A_main_call1_v6, K_main_call1_v8,
    K_main_call1_v7, K_main_call1_cst_1, K_main_call1_v5, K_main_call1_cst_0, K_main_call1_v3, K_main_call1_cst,
    K_main_call1_v11, K_main_call1_v0, K_main_cst_7]
  have k : id (constant (F := Ideal) S_ FTy.f32 1127481344#32) ix0 = real 180 := lit_180
  rw [rest_at hx hv, k, of_decide, of_decide, of_decide]
  unfold turn wrap
  generalize rest (angle (gradY (planeOf (v t)) r c) (gradX (planeOf (v t)) r c) * degrees) = q
  have n : ¬ (real 180 < (0 : EReal)) := by
    unfold real; rw [not_lt, ← EReal.coe_zero, EReal.coe_le_coe_iff]; norm_num
  have l : real q < (0 : EReal) ↔ q < 0 := by
    unfold real; rw [← EReal.coe_zero, EReal.coe_lt_coe_iff]
  rw [bit_false n]
  by_cases h : q < 0
  · have e : real q ≠ 0 := by
      unfold real; rw [← EReal.coe_zero, Ne, EReal.coe_eq_coe_iff]; exact h.ne
    rw [bit_true (l.2 h), bit_true e, if_pos h]
    show real q + real 180 = _
    unfold real
    exact (EReal.coe_add _ _).symm
  · rw [bit_false (fun z => h (l.1 z)), if_neg h]
    have : ∀ b : BitVec 1, IntOp.andi (IntOp.cmpi CmpIPredicate.ne 0#1 0#1) b = 0#1 := by decide
    rw [this]
    rfl

/-- The sector's tests by the angle. -/
theorem flat_at (t : Fin 96) (r c : Fin 512) : A_main_v53 x (ix3 t r c) =
    bit (turn (gradY (planeOf (v t)) r c) (gradX (planeOf (v t)) r c) < 22.5 ∨
      157.5 ≤ turn (gradY (planeOf (v t)) r c) (gradX (planeOf (v t)) r c)) := by
  pointwise [A_main_v53, A_main_v50, A_main_v52, K_main_v49, K_main_cst_8, K_main_v51, K_main_cst_9]
  rw [of_decide, of_decide, bit_or, turn_at hx hv, lit_low, lit_top]
  unfold real
  rw [EReal.coe_lt_coe_iff, EReal.coe_le_coe_iff]

theorem rising_at (t : Fin 96) (r c : Fin 512) : A_main_v58 x (ix3 t r c) =
    bit (22.5 ≤ turn (gradY (planeOf (v t)) r c) (gradX (planeOf (v t)) r c) ∧
      turn (gradY (planeOf (v t)) r c) (gradX (planeOf (v t)) r c) < 67.5) := by
  pointwise [A_main_v58, A_main_v55, A_main_v57, K_main_v54, K_main_cst_10, K_main_v56, K_main_cst_11]
  rw [of_decide, of_decide, bit_and, turn_at hx hv, lit_low, lit_mid]
  unfold real
  rw [EReal.coe_lt_coe_iff, EReal.coe_le_coe_iff]

theorem steep_at (t : Fin 96) (r c : Fin 512) : A_main_v63 x (ix3 t r c) =
    bit (67.5 ≤ turn (gradY (planeOf (v t)) r c) (gradX (planeOf (v t)) r c) ∧
      turn (gradY (planeOf (v t)) r c) (gradX (planeOf (v t)) r c) < 112.5) := by
  pointwise [A_main_v63, A_main_v60, A_main_v62, K_main_v59, K_main_cst_12, K_main_v61, K_main_cst_13]
  rw [of_decide, of_decide, bit_and, turn_at hx hv, lit_mid, lit_high]
  unfold real
  rw [EReal.coe_lt_coe_iff, EReal.coe_le_coe_iff]

/-- A PEAK of the reference, at a pixel with a gradient, is one by the sector's tests on whole numbers. -/
theorem peak_at (t : Fin 96) (r c : Fin 512) (h : ¬ (gradX (planeOf (v t)) r c = 0 ∧ gradY (planeOf (v t)) r c = 0)) :
    A_main_v80 x (ix3 t r c) = bit (Peak (planeOf (v t)) r c) := by
  pointwise [A_main_v80, A_main_v78, A_main_v79, A_main_v70, A_main_v69, A_main_v68, A_main_v64, A_main_v65, A_main_v66,
    A_main_v67, A_main_v77, A_main_v76, A_main_v75, A_main_v71, A_main_v72, A_main_v73, A_main_v74]
  rw [of_decide, of_decide, bit_and]
  obtain ⟨s1, s2, s3⟩ := sectors (gradX_le (planeOf_ranged (hv t)) r c) (gradY_le (planeOf_ranged (hv t)) r c) h
  have key : ∀ A B M : EReal, A = whole (ahead (planeOf (v t)) r c) → B = whole (behind (planeOf (v t)) r c) →
      M = whole (mag (planeOf (v t)) r c) → bit (A ≤ M ∧ B ≤ M) = bit (Peak (planeOf (v t)) r c) := by
    intro A B M hA hB hM
    rw [hA, hB, hM, whole_le, whole_le]; rfl
  refine key _ _ _ ?_ ?_ (mag_at hx hv t r c)
  · unfold ahead
    refine select_where (flat_at hx hv t r c) (rising_at hx hv t r c) (steep_at hx hv t r c) s1 s2 s3 ?_ ?_ ?_ ?_ <;>
      refine framed_near hx hv t _ _ _ _ ?_ ?_ <;> dsimp only <;> omega
  · unfold behind
    refine select_where (flat_at hx hv t r c) (rising_at hx hv t r c) (steep_at hx hv t r c) s1 s2 s3 ?_ ?_ ?_ ?_ <;>
      refine framed_near hx hv t _ _ _ _ ?_ ?_ <;> dsimp only <;> omega

/-- A peak above a bound. -/
theorem over (t : Fin 96) (r c : Fin 512) (n : ℤ) (hn : 0 ≤ n) :
    bit (whole n < Scalar.select (A_main_v80 x (ix3 t r c)) (A_main_v43 x (ix3 t r c)) (0 : EReal)) =
      bit (Peak (planeOf (v t)) r c ∧ n < mag (planeOf (v t)) r c) := by
  refine bit_congr ?_
  by_cases h : gradX (planeOf (v t)) r c = 0 ∧ gradY (planeOf (v t)) r c = 0
  · have m : mag (planeOf (v t)) r c = 0 := mag_zero h.1 h.2
    have z : Scalar.select (A_main_v80 x (ix3 t r c)) (A_main_v43 x (ix3 t r c)) (0 : EReal) = whole 0 := by
      rw [mag_at hx hv, m, whole_zero]
      unfold Scalar.select
      split <;> rfl
    rw [z, m, whole_lt]
    constructor
    · intro q; exact absurd q (by omega)
    · rintro ⟨_, q⟩; exact q
  · rw [peak_at hx hv t r c h, mag_at hx hv, bit_select]
    by_cases p : Peak (planeOf (v t)) r c
    · rw [if_pos p, whole_lt]; exact ⟨fun q => ⟨p, q⟩, fun q => q.2⟩
    · rw [if_neg p, whole_zero, whole_lt]
      constructor
      · intro q; exact absurd q (by omega)
      · rintro ⟨q, _⟩; exact absurd q p

theorem strong_at (t : Fin 96) (r c : Fin 512) : A_main_v83 x (ix3 t r c) = bit (Strong (planeOf (v t)) r c) := by
  pointwise [A_main_v83, A_main_v81, K_main_v82, K_main_cst_15, K_main_call9_v1, K_main_call9_v0, K_main_cst_14]
  have k : id (constant (F := Ideal) S_ FTy.f32 0#32) ix0 = (0 : EReal) := lit_zero.trans whole_zero.symm
  rw [of_decide, lit_150, k]
  exact over hx hv t r c 150 (by norm_num)

theorem weak_at (t : Fin 96) (r c : Fin 512) : A_main_v85 x (ix3 t r c) = bit (Weak (planeOf (v t)) r c) := by
  pointwise [A_main_v85, A_main_v81, K_main_v84, K_main_cst_16, K_main_call9_v1, K_main_call9_v0, K_main_cst_14]
  have k : id (constant (F := Ideal) S_ FTy.f32 0#32) ix0 = (0 : EReal) := lit_zero.trans whole_zero.symm
  rw [of_decide, lit_50, k]
  exact over hx hv t r c 50 (by norm_num)

end

end Cert.ReferenceIdeal.Hand
end
-- ==== Proof.RI.Entry.lean ====
/- What the reference's operations before its loop leave in the buffers that the loop reads, one group of operations at a time. -/
module

public import proofs.«01_k».proof.Proof.Gen.ReferenceIdeal.Run
public import proofs.«01_k».proof.Proof.Gen.ReferenceIdeal.Step
public import Idealize.ShloMosaic.Lib.StableHlo.RunRead

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (V : Valuation τ sig (Elt F)) (x : (⟨S32x3x512x512, .f32⟩ : BufTy).Contents (Elt F))

set_option maxRecDepth 65536 in
/-- The image in [0, 255]. -/
theorem stage_image (h : V (Proc.devRef .tc main_arg0) = x) :
    after hostOps0_1 (after hostOps0 V) (Proc.devRef .tc main_v3) = Step.A_main_v3 x := by
  after_reads_simp
  rw [h]
  rfl

set_option maxRecDepth 65536 in
set_option maxHeartbeats 1000000 in
/-- The image with a row added above and below. -/
theorem stage_rows (h : V (Proc.devRef .tc main_v3) = Step.A_main_v3 x) :
    upto hostOps0_2 V 6 (Proc.devRef .tc main_v7) = Step.A_main_v7 x := by
  have e4 : upto hostOps0_2 V 3 (Proc.devRef .tc main_v4) = Step.A_main_v4 x := by
    after_reads_simp
    rw [h]
    rfl
  have e5 : upto hostOps0_2 V 3 (Proc.devRef .tc main_v5) = Step.A_main_v5 x := by
    after_reads_simp
    rw [h]
    rfl
  have e6 : upto hostOps0_2 V 3 (Proc.devRef .tc main_v6) = Step.A_main_v6 x := by
    after_reads_simp
    rw [h]
    rfl
  after_reads_simp
  dsimp only [Matrix.cons_val_zero, Matrix.cons_val_one, Matrix.cons_val]
  generalize upto hostOps0_2 V 3 (Proc.devRef .tc main_v4) = y4 at e4 ⊢
  generalize upto hostOps0_2 V 3 (Proc.devRef .tc main_v5) = y5 at e5 ⊢
  generalize upto hostOps0_2 V 3 (Proc.devRef .tc main_v6) = y6 at e6 ⊢
  subst e4 e5 e6
  rfl

set_option maxRecDepth 65536 in
set_option maxHeartbeats 1000000 in
/-- The image with its border: the operands of the second joining. -/
theorem stage_cols (h : V (Proc.devRef .tc main_v3) = Step.A_main_v3 x) :
    upto hostOps0_2 V 7 (Proc.devRef .tc main_v10) = Step.A_main_v10 x := by
  have e7 := stage_rows V x h
  have e8 : upto hostOps0_2 V 6 (Proc.devRef .tc main_v8) = Step.A_main_v8 x := by
    have e : upto hostOps0_2 V 6 (Proc.devRef .tc main_v8)
        = extractStridedSlice S96x514x1 ![0, 0, 0] (upto hostOps0_2 V 6 (Proc.devRef .tc main_v7)) slices_S96x514x512_S96x514x1_0_0_0 := by
      after_reads_simp
    rw [e, e7]
    rfl
  have e9 : upto hostOps0_2 V 6 (Proc.devRef .tc main_v9) = Step.A_main_v9 x := by
    have e : upto hostOps0_2 V 6 (Proc.devRef .tc main_v9)
        = extractStridedSlice S96x514x1 ![0, 0, 511] (upto hostOps0_2 V 6 (Proc.devRef .tc main_v7)) slices_S96x514x512_S96x514x1_0_0_511 := by
      after_reads_simp
    rw [e, e7]
    rfl
  after_reads_simp
  dsimp only [Matrix.cons_val_zero, Matrix.cons_val_one, Matrix.cons_val]
  generalize upto hostOps0_2 V 6 (Proc.devRef .tc main_v7) = y7 at e7 ⊢
  generalize upto hostOps0_2 V 6 (Proc.devRef .tc main_v8) = y8 at e8 ⊢
  generalize upto hostOps0_2 V 6 (Proc.devRef .tc main_v9) = y9 at e9 ⊢
  subst e7 e8 e9
  rfl

set_option maxRecDepth 65536 in
/-- The gradients' group of operations, cut after the bordered image. -/
theorem cut_border : after hostOps0_2 V = after (hostOps0_2.drop 7) (upto hostOps0_2 V 7) := by
  unfold upto
  rw [← after_append, List.take_append_drop]

/-- What the first group makes of the bordered image. -/
structure Grad (W : Valuation τ sig (Elt F)) : Prop where
  gx : W (Proc.devRef .tc main_v25) = Step.A_main_v25 x
  gy : W (Proc.devRef .tc main_v40) = Step.A_main_v40 x
  c7 : W (Proc.devRef .tc main_cst_7) = Step.K_main_cst_7
  mag : W (Proc.devRef .tc main_v43) = Step.A_main_v43 x
  deg : W (Proc.devRef .tc main_v46) = Step.A_main_v46 x

set_option maxRecDepth 65536 in
set_option maxHeartbeats 1000000 in
/-- The gradients, the magnitude and the angle in degrees. -/
theorem stage_grad (h : V (Proc.devRef .tc main_v3) = Step.A_main_v3 x) : Grad x (after hostOps0_2 V) := by
  have h10 := stage_cols V x h
  rw [cut_border]
  generalize upto hostOps0_2 V 7 = W at h10
  have gx : after (hostOps0_2.drop 7) W (Proc.devRef .tc main_v25) = Step.A_main_v25 x := by
    after_reads_simp
    rw [h10]
    rfl
  have gy : after (hostOps0_2.drop 7) W (Proc.devRef .tc main_v40) = Step.A_main_v40 x := by
    after_reads_simp
    rw [h10]
    rfl
  refine ⟨gx, gy, ?_, ?_, ?_⟩
  · after_reads_simp
    rfl
  · after_reads_simp
    rw [h10]
    rfl
  · after_reads_simp
    rw [h10]
    rfl

/-- What the pass over the angle leaves. -/
structure Angle (W : Valuation τ sig (Elt F)) : Prop where
  mag : W (Proc.devRef .tc main_v43) = Step.A_main_v43 x
  ang : W (Proc.devRef .tc main_v47) = Step.A_main_v47 x
  pad : W (Proc.devRef .tc main_v48) = Step.A_main_v48 x

set_option maxRecDepth 65536 in
set_option maxHeartbeats 1000000 in
/-- The angle modulo 180 and the magnitude with a zero border. -/
theorem stage_angle (h : Grad x V) : Angle x (after hostOps0_5 (after hostOps0_4 (after hostOps0_3 V))) := by
  refine ⟨?_, ?_, ?_⟩
  · after_reads_simp
    exact h.mag
  · after_reads_simp
    rw [h.deg, h.c7]
    rfl
  · after_reads_simp
    rw [h.mag]
    rfl

/-- What the choice of the sectors leaves. -/
structure Sector (W : Valuation τ sig (Elt F)) : Prop extends Angle x W where
  b0 : W (Proc.devRef .tc main_v53) = Step.A_main_v53 x
  b1 : W (Proc.devRef .tc main_v58) = Step.A_main_v58 x
  b2 : W (Proc.devRef .tc main_v63) = Step.A_main_v63 x
  m01 : W (Proc.devRef .tc main_v64) = Step.A_main_v64 x
  m11 : W (Proc.devRef .tc main_v65) = Step.A_main_v65 x
  m10 : W (Proc.devRef .tc main_v66) = Step.A_main_v66 x
  m1m : W (Proc.devRef .tc main_v67) = Step.A_main_v67 x

set_option maxRecDepth 65536 in
set_option maxHeartbeats 1000000 in
/-- The sectors and the first four shifted magnitudes. -/
theorem stage_sector (h : Angle x V) : Sector x (after hostOps0_6 V) := by
  refine ⟨⟨?_, ?_, ?_⟩, ?_, ?_, ?_, ?_, ?_, ?_, ?_⟩ <;> after_reads_simp
  · exact h.mag
  · exact h.ang
  · exact h.pad
  all_goals simp only [h.ang, h.pad]; rfl

/-- What the choice of the two neighbours leaves. -/
structure Neigh (W : Valuation τ sig (Elt F)) : Prop where
  mag : W (Proc.devRef .tc main_v43) = Step.A_main_v43 x
  n1 : W (Proc.devRef .tc main_v70) = Step.A_main_v70 x
  n2 : W (Proc.devRef .tc main_v77) = Step.A_main_v77 x

set_option maxRecDepth 65536 in
set_option maxHeartbeats 1000000 in
/-- The two neighbours along the gradient. -/
theorem stage_neigh (h : Sector x V) : Neigh x (after hostOps0_13 (after hostOps0_12 (after hostOps0_11 (after hostOps0_10
    (after hostOps0_9 (after hostOps0_8 (after hostOps0_7 V))))))) := by
  refine ⟨?_, ?_, ?_⟩ <;> after_reads_simp
  · exact h.mag
  · rw [h.b0, h.b1, h.b2, h.m01, h.m11, h.m10, h.m1m]
    rfl
  · rw [h.b0, h.b1, h.b2, h.pad]
    rfl

set_option maxRecDepth 65536 in
set_option maxHeartbeats 1000000 in
/-- The strong and the weak pixels and the counters. -/
theorem stage_masks (h : Neigh x V) :
    after hostOps0_16 (after hostOps0_15 (after hostOps0_14 V)) (Proc.devRef .tc main_v86_3) = Step.A_main_v83 x
    ∧ after hostOps0_16 (after hostOps0_15 (after hostOps0_14 V)) (Proc.devRef .tc main_v86_0) = Step.A_main_v85 x := by
  constructor <;> after_reads_simp <;> simp only [h.mag, h.n1, h.n2] <;> rfl

variable (m : (ℓ : Loc nD τ sig) → Buf (Elt F) ℓ) (c : Dev nD)

/-- What the loop starts from: the strong pixels as edges, and the weak pixels. -/
theorem entry :
    entryContents preI m c (Proc.devRef .tc main_v86_3) = Step.A_main_v83 (m ((c.tc : Thread nD τ).loc main_arg0))
    ∧ entryContents preI m c (Proc.devRef .tc main_v86_0) = Step.A_main_v85 (m ((c.tc : Thread nD τ).loc main_arg0)) := by
  simp only [entryContents, afterL_cons, afterL_nil]
  exact stage_masks _ _ (stage_neigh _ _ (stage_sector _ _ (stage_angle _ _ (stage_grad _ _ (stage_image _ _ rfl)))))

/-- The edges after `k` steps, each adding the weak pixels next to one. -/
def grown (x : (⟨S32x3x512x512, .f32⟩ : BufTy).Contents (Elt F)) (k : ℕ) : Step.State F :=
  (Step.step 0)^[k] (Step.init x)

/-- What the loop's two arrays hold before step `k`. -/
theorem trips (k : ℕ) :
    (STEP^[k] (entryContents preI m c)) (Proc.devRef .tc main_v86_3) = (grown (m ((c.tc : Thread nD τ).loc main_arg0)) k).main_v86_3
    ∧ (STEP^[k] (entryContents preI m c)) (Proc.devRef .tc main_v86_0) = (grown (m ((c.tc : Thread nD τ).loc main_arg0)) k).main_v86_0 := by
  induction k with
  | zero => exact entry m c
  | succ k ih =>
    unfold grown at ih ⊢
    rw [Function.iterate_succ_apply', Function.iterate_succ_apply']
    refine ⟨(STEP_main_v86_3 _).trans ?_, (STEP_main_v86_0 _).trans ih.2⟩
    unfold step_main_v86_3
    rw [ih.1, ih.2]
    rfl

/-- The reference's run: its result is the edges after 512·512 steps, as floats in the argument's shape. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v88) = Step.R_main_v88 (grown (m ((c.tc : Thread nD τ).loc main_arg0)) 262144)
      ∧ r.2.mem ((c.tc : Thread nD τ).loc main_arg0) = m ((c.tc : Thread nD τ).loc main_arg0) :=
  (θ_run defs _ _).mono (fun _ h c => ⟨(h c).1.trans (by
    unfold out_main_v88
    rw [(trips m c 262144).1]
    rfl), (h c).2⟩) (Value.run m ρ)

end Cert.ReferenceIdeal.Hand

end
-- ==== Proof.RI.Grow.lean ====
/- The reference's loop on sets of pixels: a trip adds the weak pixels beside an edge, and its result is what the strong pixels
   reach through weak ones. -/
module

public import proofs.«01_k».proof.Proof.RI.Pixels
public import proofs.«01_k».proof.Proof.RI.Entry

@[expose] public section
set_option maxRecDepth 16384
noncomputable section
namespace Cert.ReferenceIdeal.Hand

open Cert.ReferenceIdeal Cert.ReferenceIdeal.Gen
open Idealize.ShloMosaic Idealize.ShloMosaic.Tactic
open Canny Step

theorem lit_bot : Ideal.ofBits .f32 0xFF800000#32 = ⊥ := by
  simp [Ideal.ofBits, Ideal.ieee]

/-- A running maximum is positive where a value is. -/
theorem pos_foldl {ι : Type} (g : ι → EReal) (l : List ι) (a : EReal) :
    0 < l.foldl (fun r n => max r (g n)) a ↔ 0 < a ∨ ∃ n ∈ l, 0 < g n := by
  induction l generalizing a with
  | nil => simp
  | cons b l ih =>
    rw [List.foldl_cons, ih, lt_max_iff]
    simp only [List.mem_cons, exists_eq_or_imp]
    tauto

/-- The maximum over a window of three by three is positive where a value within it is. -/
theorem window_pos (y : S96x512x512.Idx → EReal) (z : S_.Idx → EReal) (hz : ∀ i, z i = ⊥) (t : Fin 96) (r c : Fin 512) :
    0 < Host.reduceWindow max ![1, 3, 3] ![1, 1, 1] ![0, 1, 1] ![0, 1, 1] y z
        reduceWindows_S96x512x512_S96x512x512_w1s1p0_0_w3s1p1_1_w3s1p1_1 h_S_ (ix3 t r c) ↔
      ∃ r' c' : Fin 512, Near r r' ∧ Near c c' ∧ 0 < y (ix3 t r' c') := by
  unfold Host.reduceWindow
  dsimp only
  refine (pos_foldl _ _ _).trans ?_
  rw [hz]
  have ht := t.isLt
  have hr := r.isLt
  have hc := c.isLt
  constructor
  · rintro (h | ⟨n, _, h⟩)
    · exact absurd h (by simp)
    · split at h
      · next hin =>
        have h1 := hin 1
        have h2 := hin 2
        have w0 := ((⟨3, ![1, 3, 3]⟩ : Shape).rowMajor.symm n 0).isLt
        have w1 := ((⟨3, ![1, 3, 3]⟩ : Shape).rowMajor.symm n 1).isLt
        have w2 := ((⟨3, ![1, 3, 3]⟩ : Shape).rowMajor.symm n 2).isLt
        change ((⟨3, ![1, 3, 3]⟩ : Shape).rowMajor.symm n 0).val < 1 at w0
        change ((⟨3, ![1, 3, 3]⟩ : Shape).rowMajor.symm n 1).val < 3 at w1
        change ((⟨3, ![1, 3, 3]⟩ : Shape).rowMajor.symm n 2).val < 3 at w2
        change 1 ≤ r.val * 1 + ((⟨3, ![1, 3, 3]⟩ : Shape).rowMajor.symm n 1).val ∧
          r.val * 1 + ((⟨3, ![1, 3, 3]⟩ : Shape).rowMajor.symm n 1).val - 1 < 512 at h1
        change 1 ≤ c.val * 1 + ((⟨3, ![1, 3, 3]⟩ : Shape).rowMajor.symm n 2).val ∧
          c.val * 1 + ((⟨3, ![1, 3, 3]⟩ : Shape).rowMajor.symm n 2).val - 1 < 512 at h2
        refine ⟨⟨_, h1.2⟩, ⟨_, h2.2⟩, ⟨?_, ?_⟩, ⟨?_, ?_⟩, lt_of_lt_of_eq h (congrArg y (funext fun a => Fin.ext ?_))⟩
        · dsimp only; omega
        · dsimp only; omega
        · dsimp only; omega
        · dsimp only; omega
        · match a with
          | ⟨0, _⟩ =>
            show t.val * 1 + ((⟨3, ![1, 3, 3]⟩ : Shape).rowMajor.symm n 0).val - 0 = t.val
            omega
          | ⟨1, _⟩ => rfl
          | ⟨2, _⟩ => rfl
      · exact absurd h (by simp)
  · rintro ⟨r', c', ⟨n1, n2⟩, ⟨n3, n4⟩, h⟩
    have hr' := r'.isLt
    have hc' := c'.isLt
    let w : (⟨3, ![1, 3, 3]⟩ : Shape).Idx := ix3 (0 : Fin 1) (⟨r' + 1 - r, by omega⟩ : Fin 3) (⟨c' + 1 - c, by omega⟩ : Fin 3)
    refine .inr ⟨(⟨3, ![1, 3, 3]⟩ : Shape).rowMajor w, List.mem_finRange _, ?_⟩
    have e : (⟨3, ![1, 3, 3]⟩ : Shape).rowMajor.symm ((⟨3, ![1, 3, 3]⟩ : Shape).rowMajor w) = w := Equiv.symm_apply_apply _ _
    rw [dif_pos]
    · refine lt_of_lt_of_eq h (congrArg y (funext fun a => Fin.ext ?_))
      match a with
      | ⟨0, _⟩ =>
        show t.val = t.val * 1 + ((⟨3, ![1, 3, 3]⟩ : Shape).rowMajor.symm ((⟨3, ![1, 3, 3]⟩ : Shape).rowMajor w) 0).val - 0
        rw [e]
        show t.val = t.val * 1 + 0 - 0
        omega
      | ⟨1, _⟩ =>
        show r'.val = r.val * 1 + ((⟨3, ![1, 3, 3]⟩ : Shape).rowMajor.symm ((⟨3, ![1, 3, 3]⟩ : Shape).rowMajor w) 1).val - 1
        rw [e]
        show r'.val = r.val * 1 + (r'.val + 1 - r.val) - 1
        omega
      | ⟨2, _⟩ =>
        show c'.val = c.val * 1 + ((⟨3, ![1, 3, 3]⟩ : Shape).rowMajor.symm ((⟨3, ![1, 3, 3]⟩ : Shape).rowMajor w) 2).val - 1
        rw [e]
        show c'.val = c.val * 1 + (c'.val + 1 - c.val) - 1
        omega
    · intro a
      match a with
      | ⟨0, _⟩ =>
        show 0 ≤ t.val * 1 + ((⟨3, ![1, 3, 3]⟩ : Shape).rowMajor.symm ((⟨3, ![1, 3, 3]⟩ : Shape).rowMajor w) 0).val ∧
          t.val * 1 + ((⟨3, ![1, 3, 3]⟩ : Shape).rowMajor.symm ((⟨3, ![1, 3, 3]⟩ : Shape).rowMajor w) 0).val - 0 < 96
        rw [e]
        show 0 ≤ t.val * 1 + 0 ∧ t.val * 1 + 0 - 0 < 96
        omega
      | ⟨1, _⟩ =>
        show 1 ≤ r.val * 1 + ((⟨3, ![1, 3, 3]⟩ : Shape).rowMajor.symm ((⟨3, ![1, 3, 3]⟩ : Shape).rowMajor w) 1).val ∧
          r.val * 1 + ((⟨3, ![1, 3, 3]⟩ : Shape).rowMajor.symm ((⟨3, ![1, 3, 3]⟩ : Shape).rowMajor w) 1).val - 1 < 512
        rw [e]
        show 1 ≤ r.val * 1 + (r'.val + 1 - r.val) ∧ r.val * 1 + (r'.val + 1 - r.val) - 1 < 512
        omega
      | ⟨2, _⟩ =>
        show 1 ≤ c.val * 1 + ((⟨3, ![1, 3, 3]⟩ : Shape).rowMajor.symm ((⟨3, ![1, 3, 3]⟩ : Shape).rowMajor w) 2).val ∧
          c.val * 1 + ((⟨3, ![1, 3, 3]⟩ : Shape).rowMajor.symm ((⟨3, ![1, 3, 3]⟩ : Shape).rowMajor w) 2).val - 1 < 512
        rw [e]
        show 1 ≤ c.val * 1 + (c'.val + 1 - c.val) ∧ c.val * 1 + (c'.val + 1 - c.val) - 1 < 512
        omega

/-- The loop's arrays hold the edges `E` and the weak pixels `W`, plane by plane. -/
def Masks (s : State Ideal) (E W : Fin 96 → Pixels) : Prop :=
  ∀ (t : Fin 96) (r c : Fin 512), s.main_v86_3 (ix3 t r c) = bit (E t r c) ∧ s.main_v86_0 (ix3 t r c) = bit (W t r c)

/-- The dilated edges. -/
theorem dilated {s : State Ideal} {E W : Fin 96 → Pixels} (h : Masks s E W) (t : Fin 96) (r c : Fin 512) :
    0 < b5 (F := Ideal) 0 s (ix3 t r c) ↔ ∃ r' c', r' < 512 ∧ c' < 512 ∧ Near r r' ∧ Near c c' ∧ E t r' c' := by
  have z : ∀ i, b4 (F := Ideal) 0 s i = ⊥ := fun _ => lit_bot
  have u : ∀ r' c' : Fin 512, 0 < b2 (F := Ideal) 0 s (ix3 t r' c') ↔ E t r' c' := by
    intro r' c'
    show (0 : EReal) < (((s.main_v86_3 (ix3 t r' c')).toNat : ℝ) : EReal) ↔ _
    rw [(h t r' c').1]
    by_cases p : E t r' c'
    · rw [bit_true p]; simp [p]
    · rw [bit_false p]; simp [p]
  refine (window_pos (b2 (F := Ideal) 0 s) (b4 (F := Ideal) 0 s) z t r c).trans ?_
  constructor
  · rintro ⟨r', c', n, n', k⟩; exact ⟨r', c', r'.isLt, c'.isLt, n, n', (u r' c').1 k⟩
  · rintro ⟨r', c', hr, hc, n, n', k⟩; exact ⟨⟨r', hr⟩, ⟨c', hc⟩, n, n', (u ⟨r', hr⟩ ⟨c', hc⟩).2 k⟩

/-- A TRIP adds the weak pixels beside an edge. -/
theorem step_masks {s : State Ideal} {E W : Fin 96 → Pixels} (h : Masks s E W) :
    Masks (step (F := Ideal) 0 s) (fun t r c => E t r c ∨ Spread (W t) (E t) r c) W := by
  intro t r c
  refine ⟨?_, (h t r c).2⟩
  rw [step_main_v86_3]
  pointwise [b10, b9, b8, b7, b6]
  rw [of_decide, (h t r c).1, (h t r c).2, bit_and, bit_or]
  refine bit_congr (or_congr Iff.rfl (and_congr Iff.rfl ?_))
  exact dilated h t r c

/-- THE LOOP'S RESULT: the pixels that the strong ones reach through weak ones. -/
theorem grown_at {x : (⟨S32x3x512x512, .f32⟩ : BufTy).Contents (Elt Ideal)} {v : Fin 96 → Fin 512 → Fin 512 → ℝ}
    (hx : Image x v) (hv : ∀ t r c, 0 ≤ v t r c ∧ v t r c ≤ 1) (t : Fin 96) (r c : Fin 512) :
    (grown x 262144).main_v86_3 (ix3 t r c) = bit (Reach (Strong (planeOf (v t))) (Weak (planeOf (v t))) r c) := by
  let E : ℕ → Fin 96 → Pixels := fun n t => (fun K r c => K r c ∨ Spread (Weak (planeOf (v t))) K r c)^[n] (Strong (planeOf (v t)))
  have it : ∀ n, Masks (grown x n) (E n) (fun t => Weak (planeOf (v t))) := by
    intro n
    induction n with
    | zero => exact fun t r c => ⟨strong_at hx hv t r c, weak_at hx hv t r c⟩
    | succ n ih =>
      have s := step_masks ih
      unfold grown at s ⊢
      rw [Function.iterate_succ_apply']
      have e : E (n + 1) = fun t r c => E n t r c ∨ Spread (Weak (planeOf (v t))) (E n t) r c := by
        funext t
        exact Function.iterate_succ_apply' _ _ _
      rw [e]
      exact s
  rw [(it 262144 t r c).1]
  refine bit_congr (counted_reach (fun n => E n t) (fun _ _ _ _ => Iff.rfl) (fun n r _ c _ => ?_) r r.isLt c c.isLt)
  have e : E (n + 1) t = fun r c => E n t r c ∨ Spread (Weak (planeOf (v t))) (E n t) r c :=
    Function.iterate_succ_apply' _ _ _
  rw [e]

end Cert.ReferenceIdeal.Hand
end
-- ==== Proof.Value.Equal.lean ====
/- The two results are one: with every pixel in [0, 1], the kernel's region holds the pixels that the reference's loop finds. -/
module

public import proofs.«01_k».proof.Pre_unit_pixels
public import proofs.«01_k».proof.Proof.KI.Region
public import proofs.«01_k».proof.Proof.KI.Pixels
public import proofs.«01_k».proof.Proof.KI.Table
public import proofs.«01_k».proof.Proof.RI.Grow

@[expose] public section

set_option maxRecDepth 16384

noncomputable section

namespace Cert.Equal

open Idealize.ShloMosaic Idealize.ShloMosaic.TcCoe Idealize.ShloMosaic.Tactic
open Canny
open Cert.ReferenceIdeal (S32x3x512x512 S96x512x512)
open Cert.ReferenceIdeal.Hand (planes Image grown)

/-- The precondition at a pixel. -/
theorem in_unit [Cert.Pre_unit_pixels.Facts] (x : (⟨S32x3x512x512, .f32⟩ : BufTy).Contents (Elt Ideal))
    (hx : Cert.Pre_unit_pixels.fn (F := Ideal) x = fun _ => 1#1) (i : S32x3x512x512.Idx) :
    whole 0 ≤ x i ∧ x i ≤ whole 1 := by
  have h : IntOp.andi (Ideal.cmp .oge (x i) (Ideal.ofBits .f32 0x00000000#32))
      (Ideal.cmp .ole (x i) (Ideal.ofBits .f32 0x3F800000#32)) = 1#1 := congrFun hx i
  rw [cmp_ge, cmp_le, bit_and, bit_eq_one, lit_zero, lit_one] at h
  exact h

/-- The numbers of an image's planes. -/
def numbers (x : (⟨S32x3x512x512, .f32⟩ : BufTy).Contents (Elt Ideal)) (t : Fin 96) (r c : Fin 512) : ℝ :=
  (planes x (ix3 t r c)).toReal

/-- A value between 0 and 1 is a number between 0 and 1. -/
theorem number_of {y : EReal} (h : whole 0 ≤ y ∧ y ≤ whole 1) :
    y = ((y.toReal : ℝ) : EReal) ∧ 0 ≤ y.toReal ∧ y.toReal ≤ 1 := by
  obtain ⟨h0, h1⟩ := h
  unfold whole at h0 h1
  have e : ((y.toReal : ℝ) : EReal) = y := EReal.coe_toReal
    (fun k => by rw [k, top_le_iff] at h1; exact EReal.coe_ne_top _ h1)
    (fun k => by rw [k, le_bot_iff] at h0; exact EReal.coe_ne_bot _ h0)
  rw [← e, EReal.coe_le_coe_iff] at h0 h1
  exact ⟨e.symm, by simpa using h0, by simpa using h1⟩

section
variable [Cert.Pre_unit_pixels.Facts] {x : (⟨S32x3x512x512, .f32⟩ : BufTy).Contents (Elt Ideal)}
  (hx : Cert.Pre_unit_pixels.fn (F := Ideal) x = fun _ => 1#1)
include hx

/-- An entry of a plane is a pixel. -/
theorem plane_unit (i : S96x512x512.Idx) : whole 0 ≤ planes x i ∧ planes x i ≤ whole 1 := in_unit x hx _

/-- An image of pixels in [0, 1] is the image of its numbers, -/
theorem image : Image x (numbers x) := fun t r c => (number_of (plane_unit hx (ix3 t r c))).1
/-- which lie in [0, 1]. -/
theorem numbers_unit (t : Fin 96) (r c : Fin 512) : 0 ≤ numbers x t r c ∧ numbers x t r c ≤ 1 :=
  (number_of (plane_unit hx (ix3 t r c))).2

/-- The edges of the reference, as floats: 1 at a pixel that the strong ones reach, -/
theorem edge_one {t : Fin 96} {r k : Fin 512}
    (h : Reach (Strong (planeOf (numbers x t))) (Weak (planeOf (numbers x t))) r k) :
    (uitofp .f32 (grown x 262144).main_v86_3 : FVec Ideal S96x512x512 .f32) (ix3 t r k) = ((1 : ℝ) : EReal) := by
  show ((((grown x 262144).main_v86_3 (ix3 t r k)).toNat : ℝ) : EReal) = _
  rw [Cert.ReferenceIdeal.Hand.grown_at (image hx) (numbers_unit hx), bit_true h]
  norm_num
/-- and 0 elsewhere. -/
theorem edge_zero {t : Fin 96} {r k : Fin 512}
    (h : ¬ Reach (Strong (planeOf (numbers x t))) (Weak (planeOf (numbers x t))) r k) :
    (uitofp .f32 (grown x 262144).main_v86_3 : FVec Ideal S96x512x512 .f32) (ix3 t r k) = ((0 : ℝ) : EReal) := by
  show ((((grown x 262144).main_v86_3 (ix3 t r k)).toNat : ℝ) : EReal) = _
  rw [Cert.ReferenceIdeal.Hand.grown_at (image hx) (numbers_unit hx), bit_false h]
  norm_num

end

open Cert.KernelIdeal Cert.KernelIdeal.Gen Cert.KernelIdeal.Hand in
/-- THE REGION'S RESULT is the reference's edges as floats. -/
theorem region_edges [Cert.Pre_unit_pixels.Facts] (h : Halts Ideal)
    (m : (ℓ : Loc Cert.KernelIdeal.nD Cert.KernelIdeal.τ Cert.KernelIdeal.sig) → Buf (Elt Ideal) ℓ) (c : Dev Cert.KernelIdeal.nD)
    (hm : Cert.Pre_unit_pixels.fn (F := Ideal) (m ((c.tc : Thread Cert.KernelIdeal.nD Cert.KernelIdeal.τ).loc main_arg0))
      = fun _ => 1#1) :
    regionOut h m c = (uitofp .f32
      (grown (m ((c.tc : Thread Cert.KernelIdeal.nD Cert.KernelIdeal.τ).loc main_arg0)) 262144).main_v86_3
        : FVec Ideal Cert.ReferenceIdeal.S96x512x512 .f32) := by
  refine regionOut_eq h m c _ fun t r k => ?_
  have hb : Holds (iblk m c 0 t)
      (numbers (m ((c.tc : Thread Cert.KernelIdeal.nD Cert.KernelIdeal.τ).loc main_arg0)) (planeIx t)) :=
    fun r k => (iblk_at m c t r k).trans (image hm (planeIx t) r k)
  have e := outBlk_edges hb (numbers_unit hm (planeIx t)) h r k
  by_cases hr : Reach
      (Strong (planeOf (numbers (m ((c.tc : Thread Cert.KernelIdeal.nD Cert.KernelIdeal.τ).loc main_arg0)) (planeIx t))))
      (Weak (planeOf (numbers (m ((c.tc : Thread Cert.KernelIdeal.nD Cert.KernelIdeal.τ).loc main_arg0)) (planeIx t)))) r k
  · exact (e.1 hr).trans (edge_one hm hr).symm
  · exact (e.2 hr).trans (edge_zero hm hr).symm

end Cert.Equal

end
-- ==== Proof.lean ====
/- The certificate of `Cert.Claim`, assembled from the modules under `Proof/`. -/
module

public import proofs.«01_k».proof.Defs
public import proofs.«01_k».proof.Proof.K.Frame
public import proofs.«01_k».proof.Proof.K.Table
public import proofs.«01_k».proof.Proof.KI.Frame
public import proofs.«01_k».proof.Proof.KI.Table
public import proofs.«01_k».proof.Proof.Gen.ReferenceIdeal
public import proofs.«01_k».proof.Proof.Gen.ReferenceIdeal.Step
public import proofs.«01_k».proof.Proof.Gen.ReferenceIdeal.Run
public import proofs.«01_k».proof.Proof.Gen.Pre_unit_pixels
public import proofs.«01_k».proof.Proof.Value.Equal
public import Idealize.ShloMosaic.Adequacy
public import Idealize.ShloMosaic.Init

@[expose] public section

namespace Cert.Proof

open Idealize.ShloMosaic Idealize.SL.Sem

/-- The kernel runs, keeps its argument and leaves every semaphore at zero. -/
theorem frame_kernel : Cert.quiescent_Kernel (hKernel := Cert.Kernel.Gen.facts) := fun m ρ _ =>
  (θ_run Cert.Kernel.defs _ _).mono (fun _ h => ⟨fun c => (h.1 c).2, h.2⟩)
    (Cert.Kernel.Hand.run Cert.Kernel.Hand.halts_bits m ρ)

/-- So does its idealization. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.Hand.run Cert.KernelIdeal.Hand.halts_ideal m ρ)

/-- So does the reference: it names no semaphore at all. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- From memories agreeing on an image of pixels in [0, 1], the kernel and the reference end with one result. -/
theorem equal_results : Cert.algebraic_KernelIdeal_ReferenceIdeal_pre_unit_pixels (hKernelIdeal := Cert.KernelIdeal.Gen.facts)
    (hReferenceIdeal := Cert.ReferenceIdeal.Gen.facts) (hPre_unit_pixels := Cert.Pre_unit_pixels.Gen.facts) := by
  intro m ρ m' ρ' hpre hargs
  refine ⟨_, (θ_run Cert.KernelIdeal.defs _ _).mono (fun _ h => h.1)
    (Cert.KernelIdeal.Hand.run Cert.KernelIdeal.Hand.halts_ideal m ρ), ?_⟩
  refine (θ_run Cert.ReferenceIdeal.defs _ _).mono (fun r h c => ⟨(h c).1.trans ?_, (h c).2⟩)
    (Cert.ReferenceIdeal.Hand.run m' ρ')
  have e := Cert.Equal.region_edges (h := Cert.KernelIdeal.Hand.halts_ideal) (m := m) (c := c) (hpre c)
  rw [e, hargs c]
  rfl

/-- Every claim of the certificate. -/
theorem claim : Cert.Claim :=
  ⟨Cert.Kernel.Gen.facts, Cert.KernelIdeal.Gen.facts, Cert.ReferenceIdeal.Gen.facts, Cert.Pre_unit_pixels.Gen.facts,
    frame_kernel, frame_kernelIdeal, fun m ρ _ => frame_kernelIdeal m ρ trivial,
    frame_reference, fun m ρ _ => frame_reference m ρ trivial, trivial, equal_results⟩

end Cert.Proof

end
